-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v381) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x56x56 : Shape := ⟨4, ![2, 96, 56, 56]⟩
abbrev S2x192x28x28 : Shape := ⟨4, ![2, 192, 28, 28]⟩
abbrev S2x384x14x14 : Shape := ⟨4, ![2, 384, 14, 14]⟩
abbrev S2x1x224x224 : Shape := ⟨4, ![2, 1, 224, 224]⟩
abbrev S224x56 : Shape := ⟨2, ![224, 56]⟩
abbrev S56x224 : Shape := ⟨2, ![56, 224]⟩
abbrev S224x28 : Shape := ⟨2, ![224, 28]⟩
abbrev S28x224 : Shape := ⟨2, ![28, 224]⟩
abbrev S224x14 : Shape := ⟨2, ![224, 14]⟩
abbrev S14x224 : Shape := ⟨2, ![14, 224]⟩
abbrev S2x224x224 : Shape := ⟨3, ![2, 224, 224]⟩
abbrev S10x2x56x56 : Shape := ⟨4, ![10, 2, 56, 56]⟩
abbrev S10x2x28x28 : Shape := ⟨4, ![10, 2, 28, 28]⟩
abbrev S10x2x14x14 : Shape := ⟨4, ![10, 2, 14, 14]⟩
abbrev S1x10 : Shape := ⟨2, ![1, 10]⟩
abbrev S1x2x224x224 : Shape := ⟨4, ![1, 2, 224, 224]⟩
abbrev S1 : Shape := ⟨1, ![1]⟩
abbrev S1x1x1x1 : Shape := ⟨4, ![1, 1, 1, 1]⟩
abbrev S1x1 : Shape := ⟨2, ![1, 1]⟩
abbrev S10x2x224x224 : Shape := ⟨4, ![10, 2, 224, 224]⟩
abbrev S4480x224 : Shape := ⟨2, ![4480, 224]⟩
abbrev S4480x56 : Shape := ⟨2, ![4480, 56]⟩
abbrev S10x2x224x56 : Shape := ⟨4, ![10, 2, 224, 56]⟩
abbrev S1x1x224x56 : Shape := ⟨4, ![1, 1, 224, 56]⟩
abbrev S56x56 : Shape := ⟨2, ![56, 56]⟩
abbrev S1x1x56x56 : Shape := ⟨4, ![1, 1, 56, 56]⟩
abbrev S4480x28 : Shape := ⟨2, ![4480, 28]⟩
abbrev S10x2x224x28 : Shape := ⟨4, ![10, 2, 224, 28]⟩
abbrev S1x1x224x28 : Shape := ⟨4, ![1, 1, 224, 28]⟩
abbrev S28x28 : Shape := ⟨2, ![28, 28]⟩
abbrev S1x1x28x28 : Shape := ⟨4, ![1, 1, 28, 28]⟩
abbrev S4480x14 : Shape := ⟨2, ![4480, 14]⟩
abbrev S10x2x224x14 : Shape := ⟨4, ![10, 2, 224, 14]⟩
abbrev S1x1x224x14 : Shape := ⟨4, ![1, 1, 224, 14]⟩
abbrev S14x14 : Shape := ⟨2, ![14, 14]⟩
abbrev S1x1x14x14 : Shape := ⟨4, ![1, 1, 14, 14]⟩
abbrev S192x3136 : Shape := ⟨2, ![192, 3136]⟩
abbrev S384x784 : Shape := ⟨2, ![384, 784]⟩
abbrev S768x196 : Shape := ⟨2, ![768, 196]⟩
abbrev S2x10x56x56 : Shape := ⟨4, ![2, 10, 56, 56]⟩
abbrev S2x10x3136 : Shape := ⟨3, ![2, 10, 3136]⟩
abbrev S2x10x28x28 : Shape := ⟨4, ![2, 10, 28, 28]⟩
abbrev S2x10x784 : Shape := ⟨3, ![2, 10, 784]⟩
abbrev S2x10x14x14 : Shape := ⟨4, ![2, 10, 14, 14]⟩
abbrev S2x10x196 : Shape := ⟨3, ![2, 10, 196]⟩
abbrev S3x384x10 : Shape := ⟨3, ![3, 384, 10]⟩
abbrev S96x3136 : Shape := ⟨2, ![96, 3136]⟩
abbrev S1x10x3136 : Shape := ⟨3, ![1, 10, 3136]⟩
abbrev S10x3136 : Shape := ⟨2, ![10, 3136]⟩
abbrev S96x10 : Shape := ⟨2, ![96, 10]⟩
abbrev S1x96x10 : Shape := ⟨3, ![1, 96, 10]⟩
abbrev S192x784 : Shape := ⟨2, ![192, 784]⟩
abbrev S1x10x784 : Shape := ⟨3, ![1, 10, 784]⟩
abbrev S10x784 : Shape := ⟨2, ![10, 784]⟩
abbrev S192x10 : Shape := ⟨2, ![192, 10]⟩
abbrev S1x192x10 : Shape := ⟨3, ![1, 192, 10]⟩
abbrev S384x196 : Shape := ⟨2, ![384, 196]⟩
abbrev S1x10x196 : Shape := ⟨3, ![1, 10, 196]⟩
abbrev S10x196 : Shape := ⟨2, ![10, 196]⟩
abbrev S384x10 : Shape := ⟨2, ![384, 10]⟩
abbrev S1x384x10 : Shape := ⟨3, ![1, 384, 10]⟩

abbrev nBuf : Space → Nat
  | .hbm => 25
  | .vmem => 19
  | .smem => 0
  | _ => 0

abbrev bufTy : (tb : Table) → Fin (tcTables nBuf tb) → BufTy
  | .hbm, ⟨0, _⟩ => ⟨S2x96x56x56, .f32⟩
  | .hbm, ⟨1, _⟩ => ⟨S2x192x28x28, .f32⟩
  | .hbm, ⟨2, _⟩ => ⟨S2x384x14x14, .f32⟩
  | .hbm, ⟨3, _⟩ => ⟨S2x1x224x224, .f32⟩
  | .hbm, ⟨4, _⟩ => ⟨S224x56, .f32⟩
  | .hbm, ⟨5, _⟩ => ⟨S56x224, .f32⟩
  | .hbm, ⟨6, _⟩ => ⟨S224x28, .f32⟩
  | .hbm, ⟨7, _⟩ => ⟨S28x224, .f32⟩
  | .hbm, ⟨8, _⟩ => ⟨S224x14, .f32⟩
  | .hbm, ⟨9, _⟩ => ⟨S14x224, .f32⟩
  | .hbm, ⟨10, _⟩ => ⟨S2x224x224, .f32⟩
  | .hbm, ⟨11, _⟩ => ⟨S10x2x56x56, .f32⟩
  | .hbm, ⟨12, _⟩ => ⟨S10x2x28x28, .f32⟩
  | .hbm, ⟨13, _⟩ => ⟨S10x2x14x14, .f32⟩
  | .hbm, ⟨14, _⟩ => ⟨S1x10, .f32⟩
  | .hbm, ⟨15, _⟩ => ⟨S192x3136, .f32⟩
  | .hbm, ⟨16, _⟩ => ⟨S384x784, .f32⟩
  | .hbm, ⟨17, _⟩ => ⟨S768x196, .f32⟩
  | .hbm, ⟨18, _⟩ => ⟨S2x10x56x56, .f32⟩
  | .hbm, ⟨19, _⟩ => ⟨S2x10x3136, .f32⟩
  | .hbm, ⟨20, _⟩ => ⟨S2x10x28x28, .f32⟩
  | .hbm, ⟨21, _⟩ => ⟨S2x10x784, .f32⟩
  | .hbm, ⟨22, _⟩ => ⟨S2x10x14x14, .f32⟩
  | .hbm, ⟨23, _⟩ => ⟨S2x10x196, .f32⟩
  | .hbm, ⟨24, _⟩ => ⟨S3x384x10, .f32⟩
  | .local _ .vmem, ⟨0, _⟩ => ⟨S2x224x224, .f32⟩
  | .local _ .vmem, ⟨1, _⟩ => ⟨S224x56, .f32⟩
  | .local _ .vmem, ⟨2, _⟩ => ⟨S56x224, .f32⟩
  | .local _ .vmem, ⟨3, _⟩ => ⟨S224x28, .f32⟩
  | .local _ .vmem, ⟨4, _⟩ => ⟨S28x224, .f32⟩
  | .local _ .vmem, ⟨5, _⟩ => ⟨S224x14, .f32⟩
  | .local _ .vmem, ⟨6, _⟩ => ⟨S14x224, .f32⟩
  | .local _ .vmem, ⟨7, _⟩ => ⟨S10x2x56x56, .f32⟩
  | .local _ .vmem, ⟨8, _⟩ => ⟨S10x2x28x28, .f32⟩
  | .local _ .vmem, ⟨9, _⟩ => ⟨S10x2x14x14, .f32⟩
  | .local _ .vmem, ⟨10, _⟩ => ⟨S1x10, .f32⟩
  | .local _ .vmem, ⟨11, _⟩ => ⟨S192x3136, .f32⟩
  | .local _ .vmem, ⟨12, _⟩ => ⟨S384x784, .f32⟩
  | .local _ .vmem, ⟨13, _⟩ => ⟨S768x196, .f32⟩
  | .local _ .vmem, ⟨14, _⟩ => ⟨S2x10x3136, .f32⟩
  | .local _ .vmem, ⟨15, _⟩ => ⟨S2x10x784, .f32⟩
  | .local _ .vmem, ⟨16, _⟩ => ⟨S2x10x196, .f32⟩
  | .local _ .vmem, ⟨17, _⟩ => ⟨S1x10, .f32⟩
  | .local _ .vmem, ⟨18, _⟩ => ⟨S3x384x10, .f32⟩
  | _, _ => ⟨S2x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := .none

abbrev stage0_0 : Fin 1 → Memref sig .tc .vmem S2x224x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x2x56x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x2x28x28 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x2x14x14 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

abbrev stage1_0 : Fin 1 → Memref sig .tc .vmem S192x3136 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S384x784 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S768x196 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x10x3136 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x10x784 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x10x196 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S3x384x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S2x96x56x56 : Shape := ⟨4, ![2, 96, 56, 56]⟩
abbrev S2x192x28x28 : Shape := ⟨4, ![2, 192, 28, 28]⟩
abbrev S2x384x14x14 : Shape := ⟨4, ![2, 384, 14, 14]⟩
abbrev S2x1x224x224 : Shape := ⟨4, ![2, 1, 224, 224]⟩
abbrev S2x224x224 : Shape := ⟨3, ![2, 224, 224]⟩
abbrev S_ : Shape := ⟨0, ![]⟩
abbrev S10 : Shape := ⟨1, ![10]⟩
abbrev S1 : Shape := ⟨1, ![1]⟩
abbrev S11 : Shape := ⟨1, ![11]⟩
abbrev S100352 : Shape := ⟨1, ![100352]⟩
abbrev S1x11 : Shape := ⟨2, ![1, 11]⟩
abbrev S100352x1 : Shape := ⟨2, ![100352, 1]⟩
abbrev S100352x11 : Shape := ⟨2, ![100352, 11]⟩
abbrev S3x384x10 : Shape := ⟨3, ![3, 384, 10]⟩
abbrev S224 : Shape := ⟨1, ![224]⟩
abbrev S56 : Shape := ⟨1, ![56]⟩
abbrev S1x224 : Shape := ⟨2, ![1, 224]⟩
abbrev S56x1 : Shape := ⟨2, ![56, 1]⟩
abbrev S56x224 : Shape := ⟨2, ![56, 224]⟩
abbrev S224x2x96x56 : Shape := ⟨4, ![224, 2, 96, 56]⟩
abbrev S224x2x96x224 : Shape := ⟨4, ![224, 2, 96, 224]⟩
abbrev S2x96x224x224 : Shape := ⟨4, ![2, 96, 224, 224]⟩
abbrev S2x96x50176 : Shape := ⟨3, ![2, 96, 50176]⟩
abbrev S96x2x50176 : Shape := ⟨3, ![96, 2, 50176]⟩
abbrev S96x100352 : Shape := ⟨2, ![96, 100352]⟩
abbrev S100352x96 : Shape := ⟨2, ![100352, 96]⟩
abbrev S10x96 : Shape := ⟨2, ![10, 96]⟩
abbrev S96x10 : Shape := ⟨2, ![96, 10]⟩
abbrev S2 : Shape := ⟨1, ![2]⟩
abbrev S28 : Shape := ⟨1, ![28]⟩
abbrev S28x1 : Shape := ⟨2, ![28, 1]⟩
abbrev S28x224 : Shape := ⟨2, ![28, 224]⟩
abbrev S224x2x192x28 : Shape := ⟨4, ![224, 2, 192, 28]⟩
abbrev S224x2x192x224 : Shape := ⟨4, ![224, 2, 192, 224]⟩
abbrev S2x192x224x224 : Shape := ⟨4, ![2, 192, 224, 224]⟩
abbrev S2x192x50176 : Shape := ⟨3, ![2, 192, 50176]⟩
abbrev S192x2x50176 : Shape := ⟨3, ![192, 2, 50176]⟩
abbrev S192x100352 : Shape := ⟨2, ![192, 100352]⟩
abbrev S100352x192 : Shape := ⟨2, ![100352, 192]⟩
abbrev S10x192 : Shape := ⟨2, ![10, 192]⟩
abbrev S192x10 : Shape := ⟨2, ![192, 10]⟩
abbrev S14 : Shape := ⟨1, ![14]⟩
abbrev S14x1 : Shape := ⟨2, ![14, 1]⟩
abbrev S14x224 : Shape := ⟨2, ![14, 224]⟩
abbrev S224x2x384x14 : Shape := ⟨4, ![224, 2, 384, 14]⟩
abbrev S224x2x384x224 : Shape := ⟨4, ![224, 2, 384, 224]⟩
abbrev S2x384x224x224 : Shape := ⟨4, ![2, 384, 224, 224]⟩
abbrev S2x384x50176 : Shape := ⟨3, ![2, 384, 50176]⟩
abbrev S384x2x50176 : Shape := ⟨3, ![384, 2, 50176]⟩
abbrev S384x100352 : Shape := ⟨2, ![384, 100352]⟩
abbrev S100352x384 : Shape := ⟨2, ![100352, 384]⟩
abbrev S10x384 : Shape := ⟨2, ![10, 384]⟩
abbrev S384x10 : Shape := ⟨2, ![384, 10]⟩
abbrev S1x1x10 : Shape := ⟨3, ![1, 1, 10]⟩

abbrev nBuf : Space → Nat
  | .hbm => 506
  | .vmem => 0
  | .smem => 0
  | _ => 0

abbrev hbmTy0_0 (i : Nat) : BufTy := match i % 128 with
  | 0 => ⟨S2x96x56x56, .f32⟩
  | 1 => ⟨S2x192x28x28, .f32⟩
  | 2 => ⟨S2x384x14x14, .f32⟩
  | 3 => ⟨S2x1x224x224, .f32⟩
  | 4 => ⟨S2x224x224, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S10, .f32⟩
  | 13 => ⟨S_, .f32⟩
  | 14 => ⟨S10, .f32⟩
  | 15 => ⟨S10, .f32⟩
  | 16 => ⟨S1, .f32⟩
  | 17 => ⟨S_, .f32⟩
  | 18 => ⟨S10, .f32⟩
  | 19 => ⟨S10, .f32⟩
  | 20 => ⟨S10, .f32⟩
  | 21 => ⟨S10, .f32⟩
  | 22 => ⟨S1, .f32⟩
  | 23 => ⟨S10, .f32⟩
  | 24 => ⟨S10, .f32⟩
  | 25 => ⟨S10, .f32⟩
  | 26 => ⟨S1, .f32⟩
  | 27 => ⟨S11, .f32⟩
  | 28 => ⟨S100352, .f32⟩
  | 29 => ⟨S1x11, .f32⟩
  | 30 => ⟨S100352x1, .f32⟩
  | 31 => ⟨S100352x11, .f32⟩
  | 32 => ⟨S100352x11, .f32⟩
  | 33 => ⟨S100352x11, .i1⟩
  | 34 => ⟨S100352x11, .i32⟩
  | 35 => ⟨S_, .i32⟩
  | 36 => ⟨S100352, .i32⟩
  | 37 => ⟨S_, .i32⟩
  | 38 => ⟨S100352, .i32⟩
  | 39 => ⟨S100352, .i32⟩
  | 40 => ⟨S_, .i32⟩
  | 41 => ⟨S100352, .i32⟩
  | 42 => ⟨S100352, .i32⟩
  | 43 => ⟨S_, .i32⟩
  | 44 => ⟨S100352, .i32⟩
  | 45 => ⟨S100352, .i32⟩
  | 46 => ⟨S_, .i32⟩
  | 47 => ⟨S10, .i32⟩
  | 48 => ⟨S_, .i32⟩
  | 49 => ⟨S100352, .i32⟩
  | 50 => ⟨S100352, .i32⟩
  | 51 => ⟨S_, .i32⟩
  | 52 => ⟨S100352, .i32⟩
  | 53 => ⟨S100352, .i1⟩
  | 54 => ⟨S_, .i32⟩
  | 55 => ⟨S100352, .i32⟩
  | 56 => ⟨S100352, .i32⟩
  | 57 => ⟨S100352, .i32⟩
  | 58 => ⟨S100352x1, .i32⟩
  | 59 => ⟨S_, .i32⟩
  | 60 => ⟨S100352, .i32⟩
  | 61 => ⟨S10, .i32⟩
  | 62 => ⟨S10, .f32⟩
  | 63 => ⟨S_, .f32⟩
  | 64 => ⟨S3x384x10, .f32⟩
  | 65 => ⟨S_, .f32⟩
  | 66 => ⟨S_, .f32⟩
  | 67 => ⟨S_, .f32⟩
  | 68 => ⟨S224, .f32⟩
  | 69 => ⟨S_, .f32⟩
  | 70 => ⟨S224, .f32⟩
  | 71 => ⟨S224, .f32⟩
  | 72 => ⟨S_, .f32⟩
  | 73 => ⟨S224, .f32⟩
  | 74 => ⟨S224, .f32⟩
  | 75 => ⟨S_, .f32⟩
  | 76 => ⟨S224, .f32⟩
  | 77 => ⟨S224, .f32⟩
  | 78 => ⟨S_, .f32⟩
  | 79 => ⟨S224, .f32⟩
  | 80 => ⟨S224, .f32⟩
  | 81 => ⟨S56, .f32⟩
  | 82 => ⟨S1x224, .f32⟩
  | 83 => ⟨S56x1, .f32⟩
  | 84 => ⟨S56x224, .f32⟩
  | 85 => ⟨S56x224, .f32⟩
  | 86 => ⟨S56x224, .f32⟩
  | 87 => ⟨S56x224, .f32⟩
  | 88 => ⟨S_, .f32⟩
  | 89 => ⟨S56x224, .f32⟩
  | 90 => ⟨S56x224, .f32⟩
  | 91 => ⟨S56x224, .f32⟩
  | 92 => ⟨S_, .f32⟩
  | 93 => ⟨S56x224, .f32⟩
  | 94 => ⟨S56x224, .f32⟩
  | 95 => ⟨S_, .f32⟩
  | 96 => ⟨S56x224, .f32⟩
  | 97 => ⟨S56x224, .f32⟩
  | 98 => ⟨S_, .f32⟩
  | 99 => ⟨S224, .f32⟩
  | 100 => ⟨S1x224, .f32⟩
  | 101 => ⟨S1x224, .f32⟩
  | 102 => ⟨S_, .f32⟩
  | 103 => ⟨S1x224, .f32⟩
  | 104 => ⟨S1x224, .i1⟩
  | 105 => ⟨S_, .f32⟩
  | 106 => ⟨S1x224, .f32⟩
  | 107 => ⟨S1x224, .i1⟩
  | 108 => ⟨S_, .f32⟩
  | 109 => ⟨S1x224, .f32⟩
  | 110 => ⟨S1x224, .f32⟩
  | 111 => ⟨S56x224, .f32⟩
  | 112 => ⟨S56x224, .f32⟩
  | 113 => ⟨S56x224, .i1⟩
  | 114 => ⟨S_, .f32⟩
  | 115 => ⟨S56x224, .f32⟩
  | 116 => ⟨S56x224, .f32⟩
  | 117 => ⟨S_, .f32⟩
  | 118 => ⟨S224, .f32⟩
  | 119 => ⟨S224, .i1⟩
  | 120 => ⟨S_, .f32⟩
  | 121 => ⟨S224, .f32⟩
  | 122 => ⟨S224, .i1⟩
  | 123 => ⟨S224, .i1⟩
  | 124 => ⟨S1x224, .i1⟩
  | 125 => ⟨S56x224, .i1⟩
  | 126 => ⟨S_, .f32⟩
  | 127 => ⟨S56x224, .f32⟩
  | _ => ⟨S2x96x56x56, .f32⟩

abbrev hbmTy0_1 (i : Nat) : BufTy := match i % 128 with
  | 0 => ⟨S56x224, .f32⟩
  | 1 => ⟨S_, .f32⟩
  | 2 => ⟨S_, .f32⟩
  | 3 => ⟨S_, .f32⟩
  | 4 => ⟨S224, .f32⟩
  | 5 => ⟨S_, .f32⟩
  | 6 => ⟨S224, .f32⟩
  | 7 => ⟨S224, .f32⟩
  | 8 => ⟨S_, .f32⟩
  | 9 => ⟨S224, .f32⟩
  | 10 => ⟨S224, .f32⟩
  | 11 => ⟨S_, .f32⟩
  | 12 => ⟨S224, .f32⟩
  | 13 => ⟨S224, .f32⟩
  | 14 => ⟨S_, .f32⟩
  | 15 => ⟨S224, .f32⟩
  | 16 => ⟨S224, .f32⟩
  | 17 => ⟨S56, .f32⟩
  | 18 => ⟨S1x224, .f32⟩
  | 19 => ⟨S56x1, .f32⟩
  | 20 => ⟨S56x224, .f32⟩
  | 21 => ⟨S56x224, .f32⟩
  | 22 => ⟨S56x224, .f32⟩
  | 23 => ⟨S56x224, .f32⟩
  | 24 => ⟨S_, .f32⟩
  | 25 => ⟨S56x224, .f32⟩
  | 26 => ⟨S56x224, .f32⟩
  | 27 => ⟨S56x224, .f32⟩
  | 28 => ⟨S_, .f32⟩
  | 29 => ⟨S56x224, .f32⟩
  | 30 => ⟨S56x224, .f32⟩
  | 31 => ⟨S_, .f32⟩
  | 32 => ⟨S56x224, .f32⟩
  | 33 => ⟨S56x224, .f32⟩
  | 34 => ⟨S_, .f32⟩
  | 35 => ⟨S224, .f32⟩
  | 36 => ⟨S1x224, .f32⟩
  | 37 => ⟨S1x224, .f32⟩
  | 38 => ⟨S_, .f32⟩
  | 39 => ⟨S1x224, .f32⟩
  | 40 => ⟨S1x224, .i1⟩
  | 41 => ⟨S_, .f32⟩
  | 42 => ⟨S1x224, .f32⟩
  | 43 => ⟨S1x224, .i1⟩
  | 44 => ⟨S_, .f32⟩
  | 45 => ⟨S1x224, .f32⟩
  | 46 => ⟨S1x224, .f32⟩
  | 47 => ⟨S56x224, .f32⟩
  | 48 => ⟨S56x224, .f32⟩
  | 49 => ⟨S56x224, .i1⟩
  | 50 => ⟨S_, .f32⟩
  | 51 => ⟨S56x224, .f32⟩
  | 52 => ⟨S56x224, .f32⟩
  | 53 => ⟨S_, .f32⟩
  | 54 => ⟨S224, .f32⟩
  | 55 => ⟨S224, .i1⟩
  | 56 => ⟨S_, .f32⟩
  | 57 => ⟨S224, .f32⟩
  | 58 => ⟨S224, .i1⟩
  | 59 => ⟨S224, .i1⟩
  | 60 => ⟨S1x224, .i1⟩
  | 61 => ⟨S56x224, .i1⟩
  | 62 => ⟨S_, .f32⟩
  | 63 => ⟨S56x224, .f32⟩
  | 64 => ⟨S56x224, .f32⟩
  | 65 => ⟨S224x2x96x56, .f32⟩
  | 66 => ⟨S224x2x96x224, .f32⟩
  | 67 => ⟨S2x96x224x224, .f32⟩
  | 68 => ⟨S2x96x50176, .f32⟩
  | 69 => ⟨S96x2x50176, .f32⟩
  | 70 => ⟨S96x100352, .f32⟩
  | 71 => ⟨S100352x96, .f32⟩
  | 72 => ⟨S_, .f32⟩
  | 73 => ⟨S10x96, .f32⟩
  | 74 => ⟨S100352x1, .i32⟩
  | 75 => ⟨S10x96, .f32⟩
  | 76 => ⟨S96x10, .f32⟩
  | 77 => ⟨S_, .i32⟩
  | 78 => ⟨S1, .i32⟩
  | 79 => ⟨S_, .i32⟩
  | 80 => ⟨S1, .i32⟩
  | 81 => ⟨S2, .i32⟩
  | 82 => ⟨S3x384x10, .f32⟩
  | 83 => ⟨S_, .f32⟩
  | 84 => ⟨S_, .f32⟩
  | 85 => ⟨S_, .f32⟩
  | 86 => ⟨S224, .f32⟩
  | 87 => ⟨S_, .f32⟩
  | 88 => ⟨S224, .f32⟩
  | 89 => ⟨S224, .f32⟩
  | 90 => ⟨S_, .f32⟩
  | 91 => ⟨S224, .f32⟩
  | 92 => ⟨S224, .f32⟩
  | 93 => ⟨S_, .f32⟩
  | 94 => ⟨S224, .f32⟩
  | 95 => ⟨S224, .f32⟩
  | 96 => ⟨S_, .f32⟩
  | 97 => ⟨S224, .f32⟩
  | 98 => ⟨S224, .f32⟩
  | 99 => ⟨S28, .f32⟩
  | 100 => ⟨S1x224, .f32⟩
  | 101 => ⟨S28x1, .f32⟩
  | 102 => ⟨S28x224, .f32⟩
  | 103 => ⟨S28x224, .f32⟩
  | 104 => ⟨S28x224, .f32⟩
  | 105 => ⟨S28x224, .f32⟩
  | 106 => ⟨S_, .f32⟩
  | 107 => ⟨S28x224, .f32⟩
  | 108 => ⟨S28x224, .f32⟩
  | 109 => ⟨S28x224, .f32⟩
  | 110 => ⟨S_, .f32⟩
  | 111 => ⟨S28x224, .f32⟩
  | 112 => ⟨S28x224, .f32⟩
  | 113 => ⟨S_, .f32⟩
  | 114 => ⟨S28x224, .f32⟩
  | 115 => ⟨S28x224, .f32⟩
  | 116 => ⟨S_, .f32⟩
  | 117 => ⟨S224, .f32⟩
  | 118 => ⟨S1x224, .f32⟩
  | 119 => ⟨S1x224, .f32⟩
  | 120 => ⟨S_, .f32⟩
  | 121 => ⟨S1x224, .f32⟩
  | 122 => ⟨S1x224, .i1⟩
  | 123 => ⟨S_, .f32⟩
  | 124 => ⟨S1x224, .f32⟩
  | 125 => ⟨S1x224, .i1⟩
  | 126 => ⟨S_, .f32⟩
  | 127 => ⟨S1x224, .f32⟩
  | _ => ⟨S2x96x56x56, .f32⟩

abbrev hbmTy0_2 (i : Nat) : BufTy := match i % 128 with
  | 0 => ⟨S1x224, .f32⟩
  | 1 => ⟨S28x224, .f32⟩
  | 2 => ⟨S28x224, .f32⟩
  | 3 => ⟨S28x224, .i1⟩
  | 4 => ⟨S_, .f32⟩
  | 5 => ⟨S28x224, .f32⟩
  | 6 => ⟨S28x224, .f32⟩
  | 7 => ⟨S_, .f32⟩
  | 8 => ⟨S224, .f32⟩
  | 9 => ⟨S224, .i1⟩
  | 10 => ⟨S_, .f32⟩
  | 11 => ⟨S224, .f32⟩
  | 12 => ⟨S224, .i1⟩
  | 13 => ⟨S224, .i1⟩
  | 14 => ⟨S1x224, .i1⟩
  | 15 => ⟨S28x224, .i1⟩
  | 16 => ⟨S_, .f32⟩
  | 17 => ⟨S28x224, .f32⟩
  | 18 => ⟨S28x224, .f32⟩
  | 19 => ⟨S_, .f32⟩
  | 20 => ⟨S_, .f32⟩
  | 21 => ⟨S_, .f32⟩
  | 22 => ⟨S224, .f32⟩
  | 23 => ⟨S_, .f32⟩
  | 24 => ⟨S224, .f32⟩
  | 25 => ⟨S224, .f32⟩
  | 26 => ⟨S_, .f32⟩
  | 27 => ⟨S224, .f32⟩
  | 28 => ⟨S224, .f32⟩
  | 29 => ⟨S_, .f32⟩
  | 30 => ⟨S224, .f32⟩
  | 31 => ⟨S224, .f32⟩
  | 32 => ⟨S_, .f32⟩
  | 33 => ⟨S224, .f32⟩
  | 34 => ⟨S224, .f32⟩
  | 35 => ⟨S28, .f32⟩
  | 36 => ⟨S1x224, .f32⟩
  | 37 => ⟨S28x1, .f32⟩
  | 38 => ⟨S28x224, .f32⟩
  | 39 => ⟨S28x224, .f32⟩
  | 40 => ⟨S28x224, .f32⟩
  | 41 => ⟨S28x224, .f32⟩
  | 42 => ⟨S_, .f32⟩
  | 43 => ⟨S28x224, .f32⟩
  | 44 => ⟨S28x224, .f32⟩
  | 45 => ⟨S28x224, .f32⟩
  | 46 => ⟨S_, .f32⟩
  | 47 => ⟨S28x224, .f32⟩
  | 48 => ⟨S28x224, .f32⟩
  | 49 => ⟨S_, .f32⟩
  | 50 => ⟨S28x224, .f32⟩
  | 51 => ⟨S28x224, .f32⟩
  | 52 => ⟨S_, .f32⟩
  | 53 => ⟨S224, .f32⟩
  | 54 => ⟨S1x224, .f32⟩
  | 55 => ⟨S1x224, .f32⟩
  | 56 => ⟨S_, .f32⟩
  | 57 => ⟨S1x224, .f32⟩
  | 58 => ⟨S1x224, .i1⟩
  | 59 => ⟨S_, .f32⟩
  | 60 => ⟨S1x224, .f32⟩
  | 61 => ⟨S1x224, .i1⟩
  | 62 => ⟨S_, .f32⟩
  | 63 => ⟨S1x224, .f32⟩
  | 64 => ⟨S1x224, .f32⟩
  | 65 => ⟨S28x224, .f32⟩
  | 66 => ⟨S28x224, .f32⟩
  | 67 => ⟨S28x224, .i1⟩
  | 68 => ⟨S_, .f32⟩
  | 69 => ⟨S28x224, .f32⟩
  | 70 => ⟨S28x224, .f32⟩
  | 71 => ⟨S_, .f32⟩
  | 72 => ⟨S224, .f32⟩
  | 73 => ⟨S224, .i1⟩
  | 74 => ⟨S_, .f32⟩
  | 75 => ⟨S224, .f32⟩
  | 76 => ⟨S224, .i1⟩
  | 77 => ⟨S224, .i1⟩
  | 78 => ⟨S1x224, .i1⟩
  | 79 => ⟨S28x224, .i1⟩
  | 80 => ⟨S_, .f32⟩
  | 81 => ⟨S28x224, .f32⟩
  | 82 => ⟨S28x224, .f32⟩
  | 83 => ⟨S224x2x192x28, .f32⟩
  | 84 => ⟨S224x2x192x224, .f32⟩
  | 85 => ⟨S2x192x224x224, .f32⟩
  | 86 => ⟨S2x192x50176, .f32⟩
  | 87 => ⟨S192x2x50176, .f32⟩
  | 88 => ⟨S192x100352, .f32⟩
  | 89 => ⟨S100352x192, .f32⟩
  | 90 => ⟨S_, .f32⟩
  | 91 => ⟨S10x192, .f32⟩
  | 92 => ⟨S100352x1, .i32⟩
  | 93 => ⟨S10x192, .f32⟩
  | 94 => ⟨S192x10, .f32⟩
  | 95 => ⟨S_, .i32⟩
  | 96 => ⟨S1, .i32⟩
  | 97 => ⟨S_, .i32⟩
  | 98 => ⟨S1, .i32⟩
  | 99 => ⟨S2, .i32⟩
  | 100 => ⟨S3x384x10, .f32⟩
  | 101 => ⟨S_, .f32⟩
  | 102 => ⟨S_, .f32⟩
  | 103 => ⟨S_, .f32⟩
  | 104 => ⟨S224, .f32⟩
  | 105 => ⟨S_, .f32⟩
  | 106 => ⟨S224, .f32⟩
  | 107 => ⟨S224, .f32⟩
  | 108 => ⟨S_, .f32⟩
  | 109 => ⟨S224, .f32⟩
  | 110 => ⟨S224, .f32⟩
  | 111 => ⟨S_, .f32⟩
  | 112 => ⟨S224, .f32⟩
  | 113 => ⟨S224, .f32⟩
  | 114 => ⟨S_, .f32⟩
  | 115 => ⟨S224, .f32⟩
  | 116 => ⟨S224, .f32⟩
  | 117 => ⟨S14, .f32⟩
  | 118 => ⟨S1x224, .f32⟩
  | 119 => ⟨S14x1, .f32⟩
  | 120 => ⟨S14x224, .f32⟩
  | 121 => ⟨S14x224, .f32⟩
  | 122 => ⟨S14x224, .f32⟩
  | 123 => ⟨S14x224, .f32⟩
  | 124 => ⟨S_, .f32⟩
  | 125 => ⟨S14x224, .f32⟩
  | 126 => ⟨S14x224, .f32⟩
  | 127 => ⟨S14x224, .f32⟩
  | _ => ⟨S2x96x56x56, .f32⟩

abbrev hbmTy0_3 (i : Nat) : BufTy := match i % 128 with
  | 0 => ⟨S_, .f32⟩
  | 1 => ⟨S14x224, .f32⟩
  | 2 => ⟨S14x224, .f32⟩
  | 3 => ⟨S_, .f32⟩
  | 4 => ⟨S14x224, .f32⟩
  | 5 => ⟨S14x224, .f32⟩
  | 6 => ⟨S_, .f32⟩
  | 7 => ⟨S224, .f32⟩
  | 8 => ⟨S1x224, .f32⟩
  | 9 => ⟨S1x224, .f32⟩
  | 10 => ⟨S_, .f32⟩
  | 11 => ⟨S1x224, .f32⟩
  | 12 => ⟨S1x224, .i1⟩
  | 13 => ⟨S_, .f32⟩
  | 14 => ⟨S1x224, .f32⟩
  | 15 => ⟨S1x224, .i1⟩
  | 16 => ⟨S_, .f32⟩
  | 17 => ⟨S1x224, .f32⟩
  | 18 => ⟨S1x224, .f32⟩
  | 19 => ⟨S14x224, .f32⟩
  | 20 => ⟨S14x224, .f32⟩
  | 21 => ⟨S14x224, .i1⟩
  | 22 => ⟨S_, .f32⟩
  | 23 => ⟨S14x224, .f32⟩
  | 24 => ⟨S14x224, .f32⟩
  | 25 => ⟨S_, .f32⟩
  | 26 => ⟨S224, .f32⟩
  | 27 => ⟨S224, .i1⟩
  | 28 => ⟨S_, .f32⟩
  | 29 => ⟨S224, .f32⟩
  | 30 => ⟨S224, .i1⟩
  | 31 => ⟨S224, .i1⟩
  | 32 => ⟨S1x224, .i1⟩
  | 33 => ⟨S14x224, .i1⟩
  | 34 => ⟨S_, .f32⟩
  | 35 => ⟨S14x224, .f32⟩
  | 36 => ⟨S14x224, .f32⟩
  | 37 => ⟨S_, .f32⟩
  | 38 => ⟨S_, .f32⟩
  | 39 => ⟨S_, .f32⟩
  | 40 => ⟨S224, .f32⟩
  | 41 => ⟨S_, .f32⟩
  | 42 => ⟨S224, .f32⟩
  | 43 => ⟨S224, .f32⟩
  | 44 => ⟨S_, .f32⟩
  | 45 => ⟨S224, .f32⟩
  | 46 => ⟨S224, .f32⟩
  | 47 => ⟨S_, .f32⟩
  | 48 => ⟨S224, .f32⟩
  | 49 => ⟨S224, .f32⟩
  | 50 => ⟨S_, .f32⟩
  | 51 => ⟨S224, .f32⟩
  | 52 => ⟨S224, .f32⟩
  | 53 => ⟨S14, .f32⟩
  | 54 => ⟨S1x224, .f32⟩
  | 55 => ⟨S14x1, .f32⟩
  | 56 => ⟨S14x224, .f32⟩
  | 57 => ⟨S14x224, .f32⟩
  | 58 => ⟨S14x224, .f32⟩
  | 59 => ⟨S14x224, .f32⟩
  | 60 => ⟨S_, .f32⟩
  | 61 => ⟨S14x224, .f32⟩
  | 62 => ⟨S14x224, .f32⟩
  | 63 => ⟨S14x224, .f32⟩
  | 64 => ⟨S_, .f32⟩
  | 65 => ⟨S14x224, .f32⟩
  | 66 => ⟨S14x224, .f32⟩
  | 67 => ⟨S_, .f32⟩
  | 68 => ⟨S14x224, .f32⟩
  | 69 => ⟨S14x224, .f32⟩
  | 70 => ⟨S_, .f32⟩
  | 71 => ⟨S224, .f32⟩
  | 72 => ⟨S1x224, .f32⟩
  | 73 => ⟨S1x224, .f32⟩
  | 74 => ⟨S_, .f32⟩
  | 75 => ⟨S1x224, .f32⟩
  | 76 => ⟨S1x224, .i1⟩
  | 77 => ⟨S_, .f32⟩
  | 78 => ⟨S1x224, .f32⟩
  | 79 => ⟨S1x224, .i1⟩
  | 80 => ⟨S_, .f32⟩
  | 81 => ⟨S1x224, .f32⟩
  | 82 => ⟨S1x224, .f32⟩
  | 83 => ⟨S14x224, .f32⟩
  | 84 => ⟨S14x224, .f32⟩
  | 85 => ⟨S14x224, .i1⟩
  | 86 => ⟨S_, .f32⟩
  | 87 => ⟨S14x224, .f32⟩
  | 88 => ⟨S14x224, .f32⟩
  | 89 => ⟨S_, .f32⟩
  | 90 => ⟨S224, .f32⟩
  | 91 => ⟨S224, .i1⟩
  | 92 => ⟨S_, .f32⟩
  | 93 => ⟨S224, .f32⟩
  | 94 => ⟨S224, .i1⟩
  | 95 => ⟨S224, .i1⟩
  | 96 => ⟨S1x224, .i1⟩
  | 97 => ⟨S14x224, .i1⟩
  | 98 => ⟨S_, .f32⟩
  | 99 => ⟨S14x224, .f32⟩
  | 100 => ⟨S14x224, .f32⟩
  | 101 => ⟨S224x2x384x14, .f32⟩
  | 102 => ⟨S224x2x384x224, .f32⟩
  | 103 => ⟨S2x384x224x224, .f32⟩
  | 104 => ⟨S2x384x50176, .f32⟩
  | 105 => ⟨S384x2x50176, .f32⟩
  | 106 => ⟨S384x100352, .f32⟩
  | 107 => ⟨S100352x384, .f32⟩
  | 108 => ⟨S_, .f32⟩
  | 109 => ⟨S10x384, .f32⟩
  | 110 => ⟨S100352x1, .i32⟩
  | 111 => ⟨S10x384, .f32⟩
  | 112 => ⟨S384x10, .f32⟩
  | 113 => ⟨S_, .i32⟩
  | 114 => ⟨S1, .i32⟩
  | 115 => ⟨S3x384x10, .f32⟩
  | 116 => ⟨S_, .f32⟩
  | 117 => ⟨S10, .f32⟩
  | 118 => ⟨S10, .f32⟩
  | 119 => ⟨S1x1x10, .f32⟩
  | 120 => ⟨S3x384x10, .f32⟩
  | 121 => ⟨S3x384x10, .f32⟩
  | _ => ⟨S2x96x56x56, .f32⟩

abbrev hbmTy (i : Nat) : BufTy := match i / 128 with
  | 0 => hbmTy0_0 i
  | 1 => hbmTy0_1 i
  | 2 => hbmTy0_2 i
  | 3 => hbmTy0_3 i
  | _ => ⟨S2x96x56x56, .f32⟩

abbrev bufTy : (tb : Table) → Fin (tcTables nBuf tb) → BufTy
  | .hbm, ⟨i, _⟩ => hbmTy i
  | _, _ => ⟨S2x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_cst_13 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩
abbrev main_v53 : Ref sig .tc := ⟨.hbm, 77, rfl⟩
abbrev main_cst_18 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩
abbrev main_cst_21 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_v75 : Ref sig .tc := ⟨.hbm, 104, rfl⟩
abbrev main_cst_23 : Ref sig .tc := ⟨.hbm, 105, rfl⟩
abbrev main_v76 : Ref sig .tc := ⟨.hbm, 106, rfl⟩
abbrev main_v77 : Ref sig .tc := ⟨.hbm, 107, rfl⟩
abbrev main_cst_24 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_25 : Ref sig .tc := ⟨.hbm, 114, rfl⟩
abbrev main_v83 : Ref sig .tc := ⟨.hbm, 115, rfl⟩
abbrev main_v84 : Ref sig .tc := ⟨.hbm, 116, rfl⟩
abbrev main_cst_26 : Ref sig .tc := ⟨.hbm, 117, rfl⟩
abbrev main_v85 : Ref sig .tc := ⟨.hbm, 118, rfl⟩
abbrev main_v86 : Ref sig .tc := ⟨.hbm, 119, rfl⟩
abbrev main_cst_27 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_28 : Ref sig .tc := ⟨.hbm, 126, rfl⟩
abbrev main_v92 : Ref sig .tc := ⟨.hbm, 127, rfl⟩
abbrev main_v93 : Ref sig .tc := ⟨.hbm, 128, rfl⟩
abbrev main_cst_29 : Ref sig .tc := ⟨.hbm, 129, rfl⟩
abbrev main_cst_30 : Ref sig .tc := ⟨.hbm, 130, rfl⟩
abbrev main_v94 : Ref sig .tc := ⟨.hbm, 131, rfl⟩
abbrev main_v95 : Ref sig .tc := ⟨.hbm, 132, rfl⟩
abbrev main_cst_31 : Ref sig .tc := ⟨.hbm, 133, rfl⟩
abbrev main_v96 : Ref sig .tc := ⟨.hbm, 134, rfl⟩
abbrev main_v97 : Ref sig .tc := ⟨.hbm, 135, rfl⟩
abbrev main_cst_32 : Ref sig .tc := ⟨.hbm, 136, rfl⟩
abbrev main_v98 : Ref sig .tc := ⟨.hbm, 137, rfl⟩
abbrev main_v99 : Ref sig .tc := ⟨.hbm, 138, rfl⟩
abbrev main_cst_33 : Ref sig .tc := ⟨.hbm, 139, rfl⟩
abbrev main_v100 : Ref sig .tc := ⟨.hbm, 140, rfl⟩
abbrev main_v101 : Ref sig .tc := ⟨.hbm, 141, rfl⟩
abbrev main_cst_34 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_35 : Ref sig .tc := ⟨.hbm, 156, rfl⟩
abbrev main_v115 : Ref sig .tc := ⟨.hbm, 157, rfl⟩
abbrev main_v116 : Ref sig .tc := ⟨.hbm, 158, rfl⟩
abbrev main_cst_36 : Ref sig .tc := ⟨.hbm, 159, rfl⟩
abbrev main_v117 : Ref sig .tc := ⟨.hbm, 160, rfl⟩
abbrev main_v118 : Ref sig .tc := ⟨.hbm, 161, rfl⟩
abbrev main_cst_37 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_38 : Ref sig .tc := ⟨.hbm, 166, rfl⟩
abbrev main_v122 : Ref sig .tc := ⟨.hbm, 167, rfl⟩
abbrev main_v123 : Ref sig .tc := ⟨.hbm, 168, rfl⟩
abbrev main_cst_39 : Ref sig .tc := ⟨.hbm, 169, rfl⟩
abbrev main_v124 : Ref sig .tc := ⟨.hbm, 170, rfl⟩
abbrev main_v125 : Ref sig .tc := ⟨.hbm, 171, rfl⟩
abbrev main_cst_40 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_41 : Ref sig .tc := ⟨.hbm, 178, rfl⟩
abbrev main_v131 : Ref sig .tc := ⟨.hbm, 179, rfl⟩
abbrev main_v132 : Ref sig .tc := ⟨.hbm, 180, rfl⟩
abbrev main_cst_42 : Ref sig .tc := ⟨.hbm, 181, rfl⟩
abbrev main_v133 : Ref sig .tc := ⟨.hbm, 182, rfl⟩
abbrev main_v134 : Ref sig .tc := ⟨.hbm, 183, rfl⟩
abbrev main_cst_43 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_44 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_45 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_c_46 : Ref sig .tc := ⟨.hbm, 205, rfl⟩
abbrev main_v153 : Ref sig .tc := ⟨.hbm, 206, rfl⟩
abbrev main_c_47 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_48 : Ref sig .tc := ⟨.hbm, 211, rfl⟩
abbrev main_cst_49 : Ref sig .tc := ⟨.hbm, 212, rfl⟩
abbrev main_v157 : Ref sig .tc := ⟨.hbm, 213, rfl⟩
abbrev main_v158 : Ref sig .tc := ⟨.hbm, 214, rfl⟩
abbrev main_cst_50 : Ref sig .tc := ⟨.hbm, 215, rfl⟩
abbrev main_v159 : Ref sig .tc := ⟨.hbm, 216, rfl⟩
abbrev main_v160 : Ref sig .tc := ⟨.hbm, 217, rfl⟩
abbrev main_cst_51 : Ref sig .tc := ⟨.hbm, 218, rfl⟩
abbrev main_v161 : Ref sig .tc := ⟨.hbm, 219, rfl⟩
abbrev main_v162 : Ref sig .tc := ⟨.hbm, 220, rfl⟩
abbrev main_cst_52 : Ref sig .tc := ⟨.hbm, 221, rfl⟩
abbrev main_v163 : Ref sig .tc := ⟨.hbm, 222, rfl⟩
abbrev main_v164 : Ref sig .tc := ⟨.hbm, 223, rfl⟩
abbrev main_cst_53 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_54 : Ref sig .tc := ⟨.hbm, 238, rfl⟩
abbrev main_v178 : Ref sig .tc := ⟨.hbm, 239, rfl⟩
abbrev main_v179 : Ref sig .tc := ⟨.hbm, 240, rfl⟩
abbrev main_cst_55 : Ref sig .tc := ⟨.hbm, 241, rfl⟩
abbrev main_v180 : Ref sig .tc := ⟨.hbm, 242, rfl⟩
abbrev main_v181 : Ref sig .tc := ⟨.hbm, 243, rfl⟩
abbrev main_cst_56 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_57 : Ref sig .tc := ⟨.hbm, 248, rfl⟩
abbrev main_v185 : Ref sig .tc := ⟨.hbm, 249, rfl⟩
abbrev main_v186 : Ref sig .tc := ⟨.hbm, 250, rfl⟩
abbrev main_cst_58 : Ref sig .tc := ⟨.hbm, 251, rfl⟩
abbrev main_v187 : Ref sig .tc := ⟨.hbm, 252, rfl⟩
abbrev main_v188 : Ref sig .tc := ⟨.hbm, 253, rfl⟩
abbrev main_cst_59 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_cst_60 : Ref sig .tc := ⟨.hbm, 260, rfl⟩
abbrev main_v194 : Ref sig .tc := ⟨.hbm, 261, rfl⟩
abbrev main_v195 : Ref sig .tc := ⟨.hbm, 262, rfl⟩
abbrev main_cst_61 : Ref sig .tc := ⟨.hbm, 263, rfl⟩
abbrev main_v196 : Ref sig .tc := ⟨.hbm, 264, rfl⟩
abbrev main_v197 : Ref sig .tc := ⟨.hbm, 265, rfl⟩
abbrev main_cst_62 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_63 : Ref sig .tc := ⟨.hbm, 272, rfl⟩
abbrev main_v203 : Ref sig .tc := ⟨.hbm, 273, rfl⟩
abbrev main_v204 : Ref sig .tc := ⟨.hbm, 274, rfl⟩
abbrev main_cst_64 : Ref sig .tc := ⟨.hbm, 275, rfl⟩
abbrev main_cst_65 : Ref sig .tc := ⟨.hbm, 276, rfl⟩
abbrev main_v205 : Ref sig .tc := ⟨.hbm, 277, rfl⟩
abbrev main_v206 : Ref sig .tc := ⟨.hbm, 278, rfl⟩
abbrev main_cst_66 : Ref sig .tc := ⟨.hbm, 279, rfl⟩
abbrev main_v207 : Ref sig .tc := ⟨.hbm, 280, rfl⟩
abbrev main_v208 : Ref sig .tc := ⟨.hbm, 281, rfl⟩
abbrev main_cst_67 : Ref sig .tc := ⟨.hbm, 282, rfl⟩
abbrev main_v209 : Ref sig .tc := ⟨.hbm, 283, rfl⟩
abbrev main_v210 : Ref sig .tc := ⟨.hbm, 284, rfl⟩
abbrev main_cst_68 : Ref sig .tc := ⟨.hbm, 285, rfl⟩
abbrev main_v211 : Ref sig .tc := ⟨.hbm, 286, rfl⟩
abbrev main_v212 : Ref sig .tc := ⟨.hbm, 287, rfl⟩
abbrev main_cst_69 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_cst_70 : Ref sig .tc := ⟨.hbm, 302, rfl⟩
abbrev main_v226 : Ref sig .tc := ⟨.hbm, 303, rfl⟩
abbrev main_v227 : Ref sig .tc := ⟨.hbm, 304, rfl⟩
abbrev main_cst_71 : Ref sig .tc := ⟨.hbm, 305, rfl⟩
abbrev main_v228 : Ref sig .tc := ⟨.hbm, 306, rfl⟩
abbrev main_v229 : Ref sig .tc := ⟨.hbm, 307, rfl⟩
abbrev main_cst_72 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_cst_73 : Ref sig .tc := ⟨.hbm, 312, rfl⟩
abbrev main_v233 : Ref sig .tc := ⟨.hbm, 313, rfl⟩
abbrev main_v234 : Ref sig .tc := ⟨.hbm, 314, rfl⟩
abbrev main_cst_74 : Ref sig .tc := ⟨.hbm, 315, rfl⟩
abbrev main_v235 : Ref sig .tc := ⟨.hbm, 316, rfl⟩
abbrev main_v236 : Ref sig .tc := ⟨.hbm, 317, rfl⟩
abbrev main_cst_75 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_cst_76 : Ref sig .tc := ⟨.hbm, 324, rfl⟩
abbrev main_v242 : Ref sig .tc := ⟨.hbm, 325, rfl⟩
abbrev main_v243 : Ref sig .tc := ⟨.hbm, 326, rfl⟩
abbrev main_cst_77 : Ref sig .tc := ⟨.hbm, 327, rfl⟩
abbrev main_v244 : Ref sig .tc := ⟨.hbm, 328, rfl⟩
abbrev main_v245 : Ref sig .tc := ⟨.hbm, 329, rfl⟩
abbrev main_cst_78 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_cst_79 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_cst_80 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_c_81 : Ref sig .tc := ⟨.hbm, 351, rfl⟩
abbrev main_v264 : Ref sig .tc := ⟨.hbm, 352, rfl⟩
abbrev main_c_82 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_cst_83 : Ref sig .tc := ⟨.hbm, 357, rfl⟩
abbrev main_cst_84 : Ref sig .tc := ⟨.hbm, 358, rfl⟩
abbrev main_v268 : Ref sig .tc := ⟨.hbm, 359, rfl⟩
abbrev main_v269 : Ref sig .tc := ⟨.hbm, 360, rfl⟩
abbrev main_cst_85 : Ref sig .tc := ⟨.hbm, 361, rfl⟩
abbrev main_v270 : Ref sig .tc := ⟨.hbm, 362, rfl⟩
abbrev main_v271 : Ref sig .tc := ⟨.hbm, 363, rfl⟩
abbrev main_cst_86 : Ref sig .tc := ⟨.hbm, 364, rfl⟩
abbrev main_v272 : Ref sig .tc := ⟨.hbm, 365, rfl⟩
abbrev main_v273 : Ref sig .tc := ⟨.hbm, 366, rfl⟩
abbrev main_cst_87 : Ref sig .tc := ⟨.hbm, 367, rfl⟩
abbrev main_v274 : Ref sig .tc := ⟨.hbm, 368, rfl⟩
abbrev main_v275 : Ref sig .tc := ⟨.hbm, 369, rfl⟩
abbrev main_cst_88 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_cst_89 : Ref sig .tc := ⟨.hbm, 384, rfl⟩
abbrev main_v289 : Ref sig .tc := ⟨.hbm, 385, rfl⟩
abbrev main_v290 : Ref sig .tc := ⟨.hbm, 386, rfl⟩
abbrev main_cst_90 : Ref sig .tc := ⟨.hbm, 387, rfl⟩
abbrev main_v291 : Ref sig .tc := ⟨.hbm, 388, rfl⟩
abbrev main_v292 : Ref sig .tc := ⟨.hbm, 389, rfl⟩
abbrev main_cst_91 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_92 : Ref sig .tc := ⟨.hbm, 394, rfl⟩
abbrev main_v296 : Ref sig .tc := ⟨.hbm, 395, rfl⟩
abbrev main_v297 : Ref sig .tc := ⟨.hbm, 396, rfl⟩
abbrev main_cst_93 : Ref sig .tc := ⟨.hbm, 397, rfl⟩
abbrev main_v298 : Ref sig .tc := ⟨.hbm, 398, rfl⟩
abbrev main_v299 : Ref sig .tc := ⟨.hbm, 399, rfl⟩
abbrev main_cst_94 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_cst_95 : Ref sig .tc := ⟨.hbm, 406, rfl⟩
abbrev main_v305 : Ref sig .tc := ⟨.hbm, 407, rfl⟩
abbrev main_v306 : Ref sig .tc := ⟨.hbm, 408, rfl⟩
abbrev main_cst_96 : Ref sig .tc := ⟨.hbm, 409, rfl⟩
abbrev main_v307 : Ref sig .tc := ⟨.hbm, 410, rfl⟩
abbrev main_v308 : Ref sig .tc := ⟨.hbm, 411, rfl⟩
abbrev main_cst_97 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_cst_98 : Ref sig .tc := ⟨.hbm, 418, rfl⟩
abbrev main_v314 : Ref sig .tc := ⟨.hbm, 419, rfl⟩
abbrev main_v315 : Ref sig .tc := ⟨.hbm, 420, rfl⟩
abbrev main_cst_99 : Ref sig .tc := ⟨.hbm, 421, rfl⟩
abbrev main_cst_100 : Ref sig .tc := ⟨.hbm, 422, rfl⟩
abbrev main_v316 : Ref sig .tc := ⟨.hbm, 423, rfl⟩
abbrev main_v317 : Ref sig .tc := ⟨.hbm, 424, rfl⟩
abbrev main_cst_101 : Ref sig .tc := ⟨.hbm, 425, rfl⟩
abbrev main_v318 : Ref sig .tc := ⟨.hbm, 426, rfl⟩
abbrev main_v319 : Ref sig .tc := ⟨.hbm, 427, rfl⟩
abbrev main_cst_102 : Ref sig .tc := ⟨.hbm, 428, rfl⟩
abbrev main_v320 : Ref sig .tc := ⟨.hbm, 429, rfl⟩
abbrev main_v321 : Ref sig .tc := ⟨.hbm, 430, rfl⟩
abbrev main_cst_103 : Ref sig .tc := ⟨.hbm, 431, rfl⟩
abbrev main_v322 : Ref sig .tc := ⟨.hbm, 432, rfl⟩
abbrev main_v323 : Ref sig .tc := ⟨.hbm, 433, rfl⟩
abbrev main_cst_104 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_cst_105 : Ref sig .tc := ⟨.hbm, 448, rfl⟩
abbrev main_v337 : Ref sig .tc := ⟨.hbm, 449, rfl⟩
abbrev main_v338 : Ref sig .tc := ⟨.hbm, 450, rfl⟩
abbrev main_cst_106 : Ref sig .tc := ⟨.hbm, 451, rfl⟩
abbrev main_v339 : Ref sig .tc := ⟨.hbm, 452, rfl⟩
abbrev main_v340 : Ref sig .tc := ⟨.hbm, 453, rfl⟩
abbrev main_cst_107 : Ref sig .tc := ⟨.hbm, 454, rfl⟩
abbrev main_v341 : Ref sig .tc := ⟨.hbm, 455, rfl⟩
abbrev main_v342 : Ref sig .tc := ⟨.hbm, 456, rfl⟩
abbrev main_v343 : Ref sig .tc := ⟨.hbm, 457, rfl⟩
abbrev main_cst_108 : Ref sig .tc := ⟨.hbm, 458, rfl⟩
abbrev main_v344 : Ref sig .tc := ⟨.hbm, 459, rfl⟩
abbrev main_v345 : Ref sig .tc := ⟨.hbm, 460, rfl⟩
abbrev main_cst_109 : Ref sig .tc := ⟨.hbm, 461, rfl⟩
abbrev main_v346 : Ref sig .tc := ⟨.hbm, 462, rfl⟩
abbrev main_v347 : Ref sig .tc := ⟨.hbm, 463, rfl⟩
abbrev main_cst_110 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_cst_111 : Ref sig .tc := ⟨.hbm, 470, rfl⟩
abbrev main_v353 : Ref sig .tc := ⟨.hbm, 471, rfl⟩
abbrev main_v354 : Ref sig .tc := ⟨.hbm, 472, rfl⟩
abbrev main_cst_112 : Ref sig .tc := ⟨.hbm, 473, rfl⟩
abbrev main_v355 : Ref sig .tc := ⟨.hbm, 474, rfl⟩
abbrev main_v356 : Ref sig .tc := ⟨.hbm, 475, rfl⟩
abbrev main_cst_113 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩
abbrev main_v360 : Ref sig .tc := ⟨.hbm, 480, rfl⟩
abbrev main_v361 : Ref sig .tc := ⟨.hbm, 481, rfl⟩
abbrev main_cst_114 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_v368 : Ref sig .tc := ⟨.hbm, 489, rfl⟩
abbrev main_v369 : Ref sig .tc := ⟨.hbm, 490, rfl⟩
abbrev main_v370 : Ref sig .tc := ⟨.hbm, 491, rfl⟩
abbrev main_cst_115 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_c_116 : Ref sig .tc := ⟨.hbm, 497, rfl⟩
abbrev main_v375 : Ref sig .tc := ⟨.hbm, 498, rfl⟩
abbrev main_v376 : Ref sig .tc := ⟨.hbm, 499, rfl⟩
abbrev main_cst_117 : Ref sig .tc := ⟨.hbm, 500, rfl⟩
abbrev main_v377 : Ref sig .tc := ⟨.hbm, 501, rfl⟩
abbrev main_v378 : Ref sig .tc := ⟨.hbm, 502, rfl⟩
abbrev main_v379 : Ref sig .tc := ⟨.hbm, 503, rfl⟩
abbrev main_v380 : Ref sig .tc := ⟨.hbm, 504, rfl⟩
abbrev main_v381 : Ref sig .tc := ⟨.hbm, 505, rfl⟩

abbrev nD : Nat := 1
abbrev τ : Topo := Topo.v7x

variable {F : FTy → Type} [FloatOps F]
-- ==== Proof.Bins.lean ====
/- The bins. The reference counts the edges of `linspace(lo, hi, 11)` that are at most a depth and clips; the kernel
   compares the depth with `lo + d·(hi − lo)/10` from below and from above. Both pick the same bin of every depth
   between `lo` and `hi`, infinite depths included. -/
module

public import Idealize.ShloMosaic.PureOps.Ideal
public import Idealize.ShloMosaic.Lib.ValueIdxCore

@[expose] public section

namespace Cert.Pool

open Idealize.ShloMosaic

/-- Edge `j` of the reference's eleven: `lo·(1 − j/10) + hi·(j/10)`, and `hi` itself for the last. -/
noncomputable def edge (lo hi : EReal) (j : ℕ) : EReal :=
  if j = 10 then hi else lo * ((1 - (j : ℝ) / 10 : ℝ) : EReal) + hi * (((j : ℝ) / 10 : ℝ) : EReal)

/-- The kernel's lower end of bin `j`: `lo + j·((hi − lo)/10)`. -/
noncomputable def lower (lo hi : EReal) (j : ℕ) : EReal :=
  lo + (((j : ℝ)) : EReal) * Ideal.div (hi - lo) ((10 : ℝ) : EReal)

/-- The kernel's test for bin `d`: at least its lower end and, but for the last bin, below the next one's. -/
def Kept (lo hi : EReal) (d : ℕ) (x : EReal) : Prop :=
  lower lo hi d ≤ x ∧ (d < 9 → x < lower lo hi (d + 1))

/-- How many of the eleven edges are at most `x`. -/
noncomputable def edgesBelow (lo hi x : EReal) : ℕ :=
  (Finset.univ.filter fun j : Fin 11 => edge lo hi j.val ≤ x).card

/-- A down-closed property of `0 … 10` that holds at `0` holds exactly up to some `k ≤ 10`. -/
theorem exists_last (p : ℕ → Prop) (h0 : p 0) (hs : ∀ j, j < 10 → p (j + 1) → p j) :
    ∃ k, k ≤ 10 ∧ ∀ j, j ≤ 10 → (p j ↔ j ≤ k) := by
  classical
  have hdown : ∀ n, n ≤ 10 → p n → ∀ j, j ≤ n → p j := by
    intro n
    induction n with
    | zero => intro _ h j hj; obtain rfl : j = 0 := by omega
              exact h
    | succ n ih =>
      intro hn h j hj
      rcases Nat.lt_or_ge j (n + 1) with hlt | hge
      · exact ih (by omega) (hs n (by omega) h) j (by omega)
      · obtain rfl : j = n + 1 := by omega
        exact h
  refine ⟨Nat.findGreatest p 10, Nat.findGreatest_le 10, fun j hj => ⟨fun h => Nat.le_findGreatest hj h, fun h => ?_⟩⟩
  exact hdown _ (Nat.findGreatest_le 10) (Nat.findGreatest_spec (P := p) (Nat.zero_le 10) h0) j h

/-- The number of members of `0 … 10` that are at most `k` is `k + 1`. -/
theorem card_le (k : ℕ) (hk : k ≤ 10) : (Finset.univ.filter fun j : Fin 11 => j.val ≤ k).card = k + 1 := by
  interval_cases k <;> decide

/-- With a least depth of minus infinity every bin starts there. -/
theorem lower_bot (hi : EReal) (j : ℕ) : lower ⊥ hi j = ⊥ := by
  unfold lower; exact EReal.bot_add _

/-- With a real least depth and an infinite greatest one, the first bin starts at the least depth and every other at infinity. -/
theorem lower_coe_top (l : ℝ) (j : ℕ) : lower l ⊤ j = if j = 0 then (l : EReal) else ⊤ := by
  unfold lower
  rw [Ideal.div_coe (by norm_num), EReal.top_sub_coe, EReal.top_mul_coe_of_pos (by norm_num)]
  split
  · next h => subst h; simp
  · next h =>
    rw [EReal.coe_mul_top_of_pos (by exact_mod_cast Nat.pos_of_ne_zero h), EReal.coe_add_top]

/-- With real extremes the bins' lower ends are evenly spaced. -/
theorem lower_coe_coe (l h : ℝ) (j : ℕ) : lower l h j = ((l + j * ((h - l) / 10) : ℝ) : EReal) := by
  unfold lower
  rw [Ideal.div_coe (by norm_num), ← EReal.coe_sub, ← EReal.coe_mul, ← EReal.coe_mul, ← EReal.coe_add]
  congr 1; ring

/-- Unless every depth is `+∞`, the reference's first ten edges are the kernel's lower ends. -/
theorem edge_eq_lower (lo hi : EReal) (hlo : lo ≠ ⊤) (hle : lo ≤ hi) (j : ℕ) (hj : j < 10) :
    edge lo hi j = lower lo hi j := by
  have h1 : (0 : ℝ) < 1 - (j : ℝ) / 10 := by
    have : (j : ℝ) < 10 := by exact_mod_cast hj
    linarith
  unfold edge
  rw [if_neg (by omega)]
  induction lo with
  | bot => rw [lower_bot, EReal.bot_mul_coe_of_pos h1, EReal.bot_add]
  | top => exact absurd rfl hlo
  | coe l =>
    induction hi with
    | bot => exact absurd hle (by simp)
    | top =>
      rw [lower_coe_top]
      split
      · next h => subst h; simp
      · next h =>
        have : (0 : ℝ) < (j : ℝ) / 10 := by
          have : (0 : ℝ) < j := by exact_mod_cast Nat.pos_of_ne_zero h
          positivity
        rw [EReal.top_mul_coe_of_pos this, ← EReal.coe_mul, EReal.coe_add_top]
    | coe h =>
      rw [lower_coe_coe, ← EReal.coe_mul, ← EReal.coe_mul, ← EReal.coe_add]
      congr 1; ring

/-- The lower ends rise, and the last is at most `hi`. -/
theorem lower_mono (lo hi : EReal) (hlo : lo ≠ ⊤) (hle : lo ≤ hi) (j : ℕ) :
    lower lo hi j ≤ lower lo hi (j + 1) ∧ lower lo hi 9 ≤ hi := by
  induction lo with
  | bot => simp [lower_bot]
  | top => exact absurd rfl hlo
  | coe l =>
    induction hi with
    | bot => exact absurd hle (by simp)
    | top => simp [lower_coe_top]
    | coe h =>
      have hlh : l ≤ h := by exact_mod_cast hle
      rw [lower_coe_coe, lower_coe_coe, lower_coe_coe]
      constructor
      · have : l + (j : ℝ) * ((h - l) / 10) ≤ l + ((j + 1 : ℕ) : ℝ) * ((h - l) / 10) := by
          push_cast; nlinarith
        exact_mod_cast this
      · have : l + ((9 : ℕ) : ℝ) * ((h - l) / 10) ≤ h := by push_cast; linarith
        exact_mod_cast this

/-- The first bin starts at the least depth. -/
theorem lower_zero (lo hi : EReal) : lower lo hi 0 = lo := by simp [lower]

/-- THE BINS AGREE: a depth between `lo` and `hi` is counted into bin `d` by the reference — one less than the number
    of edges at most it, clipped to nine — exactly when the kernel's test for `d` keeps it. At least one edge is. -/
theorem bin_iff (lo hi x : EReal) (h1 : lo ≤ x) (h2 : x ≤ hi) (d : ℕ) (hd : d < 10) :
    1 ≤ edgesBelow lo hi x ∧ edgesBelow lo hi x ≤ 11 ∧ (min 9 (edgesBelow lo hi x - 1) = d ↔ Kept lo hi d x) := by
  classical
  by_cases hlo : lo = ⊤
  · subst hlo
    obtain rfl : x = ⊤ := top_le_iff.mp h1
    obtain rfl : hi = ⊤ := top_le_iff.mp h2
    have hc : edgesBelow ⊤ ⊤ ⊤ = 11 := by
      unfold edgesBelow
      rw [Finset.filter_true_of_mem (fun _ _ => le_top)]; rfl
    rw [hc]
    refine ⟨by norm_num, by norm_num, ?_⟩
    unfold Kept
    constructor
    · intro h; exact ⟨le_top, fun h9 => by omega⟩
    · rintro ⟨-, h⟩
      by_contra hne
      exact absurd (h (by omega)) not_top_lt
  · have hle := h1.trans h2
    let p : ℕ → Prop := fun j => if j = 10 then hi ≤ x else lower lo hi j ≤ x
    have hp : ∀ j, j < 10 → (p j ↔ lower lo hi j ≤ x) := fun j hj => by simp only [p]; rw [if_neg (by omega)]
    have hp10 : p 10 ↔ hi ≤ x := by simp [p]
    obtain ⟨k, hk, hkp⟩ := exists_last p ((hp 0 (by norm_num)).mpr (by rw [lower_zero]; exact h1)) (by
      intro j hj h
      rw [hp j hj]
      rcases Nat.lt_or_ge j 9 with h9 | h9
      · exact (lower_mono lo hi hlo hle j).1.trans ((hp (j + 1) (by omega)).mp h)
      · obtain rfl : j = 9 := by omega
        exact (lower_mono lo hi hlo hle 0).2.trans (hp10.mp h))
    have hc : edgesBelow lo hi x = k + 1 := by
      unfold edgesBelow
      rw [← card_le k hk]
      congr 1
      refine Finset.filter_congr fun j _ => ?_
      rw [← hkp j.val (by omega)]
      rcases Nat.lt_or_ge j.val 10 with h10 | h10
      · rw [hp _ h10, edge_eq_lower lo hi hlo hle _ h10]
      · have hj : j.val = 10 := by omega
        rw [hj, hp10]; simp [edge]
    rw [hc]
    refine ⟨by omega, by omega, ?_⟩
    unfold Kept
    rw [← hp d hd, hkp d (by omega)]
    constructor
    · intro h
      refine ⟨by omega, fun h9 => ?_⟩
      rw [← not_le, ← hp (d + 1) (by omega), hkp (d + 1) (by omega)]
      omega
    · rintro ⟨ha, hb⟩
      rcases Nat.lt_or_ge d 9 with h9 | h9
      · have := hb h9
        rw [← not_le, ← hp (d + 1) (by omega), hkp (d + 1) (by omega)] at this
        omega
      · omega

end Cert.Pool
-- ==== Proof.Masks.lean ====
/- What the weights kernel computes of the depths: their minimum and maximum, and, for each of the ten bins, the
   array that is one where the bin keeps the depth and zero elsewhere. -/
module

public import proofs.«01_k».proof.Proof.Bins
public import proofs.«01_k».proof.Proof.Gen.KernelIdeal.Skeleton
public import Idealize.ShloMosaic.PureOps.Ideal.Laws
public import Idealize.ShloMosaic.Lib.IdealHost
public import Idealize.ShloMosaic.Lib.Pointwise.Tactic

@[expose] public section

set_option maxRecDepth 16384

noncomputable section

namespace Cert.Pool

open Idealize.ShloMosaic Cert.KernelIdeal Cert.KernelIdeal.Gen

/-- The least and the greatest depth. -/
def least (x : Vec Ideal S2x224x224 .f32) : EReal := ⨅ i, x i
/-- The greatest depth. -/
def greatest (x : Vec Ideal S2x224x224 .f32) : EReal := ⨆ i, x i

/-- The array that is one where bin `d` keeps the depth and zero elsewhere. -/
def mask (x : Vec Ideal S2x224x224 .f32) (d : ℕ) (i : S2x224x224.Idx) : EReal :=
  open Classical in if Kept (least x) (greatest x) d (x i) then 1 else 0

/-- A minimum folded over a set from the top is the infimum over it. -/
theorem fold_min_eq {ι : Type*} (s : Finset ι) (f : ι → EReal) : s.fold min ⊤ f = ⨅ i ∈ s, f i := by
  classical
  induction s using Finset.induction_on with
  | empty => simp
  | insert a s ha ih => rw [Finset.fold_insert ha, ih, Finset.iInf_insert]

/-- A fold of maxima from the bottom is a supremum. -/
theorem fold_max_eq {ι : Type*} (s : Finset ι) (f : ι → EReal) : s.fold max ⊥ f = ⨆ i ∈ s, f i := by
  classical
  induction s using Finset.induction_on with
  | empty => simp
  | insert a s ha ih => rw [Finset.fold_insert ha, ih, Finset.iSup_insert]

/-- The word of plus infinity. -/
theorem ofBits_top : Ideal.ofBits .f32 0x7F800000#32 = ⊤ := by simp [Ideal.ofBits, Ideal.ieee]
/-- The word of minus infinity. -/
theorem ofBits_bot : Ideal.ofBits .f32 0xFF800000#32 = ⊥ := by simp [Ideal.ofBits, Ideal.ieee]

/-- A minimum over the whole array does not change when the array is cast to another shape. -/
theorem iInf_shapeCast {s t : Shape} (x : s.Idx → EReal) (h : s.ShapeCasts t) : ⨅ j, shapeCast t x h j = ⨅ i, x i :=
  (Shape.reshapeEquiv h).iInf_comp (g := x)

/-- A reshape keeps the supremum. -/
theorem iSup_shapeCast {s t : Shape} (x : s.Idx → EReal) (h : s.ShapeCasts t) : ⨆ j, shapeCast t x h j = ⨆ i, x i :=
  (Shape.reshapeEquiv h).iSup_comp (g := x)

/-- A shape of one element has one index. -/
theorem S1_idx (j j' : S1.Idx) : j = j' := by
  funext a
  match a with
  | ⟨0, _⟩ => exact Subsingleton.elim (α := Fin 1) _ _

/-- The minimum over every axis is the infimum, the maximum the supremum, the sum the sum over every index. -/
theorem minimum_all (v : FVec Ideal S1x2x224x224 .f32) (j : S1.Idx) :
    multiReduction .minimumf [1, 2, 3] S1 v 0x7F800000#32 reduces_S1x2x224x224_S1 (.inl rfl) rfl j = ⨅ i, v i := by
  refine (multiReduction_minimumf_eq_fold _ _ _ (.inl rfl) rfl _).trans ?_
  rw [Finset.filter_true_of_mem (fun _ _ => S1_idx _ _)]
  refine (congrArg (fun z => Finset.fold min z _ _) ofBits_top).trans ((fold_min_eq _ _).trans ?_)
  simp only [Finset.mem_univ, iInf_pos]

/-- The kernel's maximum over all depths. -/
theorem maximum_all (v : FVec Ideal S1x2x224x224 .f32) (hφ) (hacc) (j : S1.Idx) :
    multiReduction .maximumf [1, 2, 3] S1 v 0xFF800000#32 reduces_S1x2x224x224_S1 hφ hacc j = ⨆ i, v i := by
  refine (multiReduction_maximumf_eq_fold _ _ _ hφ hacc _).trans ?_
  rw [Finset.filter_true_of_mem (fun _ _ => S1_idx _ _)]
  refine (congrArg (fun z => Finset.fold max z _ _) ofBits_bot).trans ((fold_max_eq _ _).trans ?_)
  simp only [Finset.mem_univ, iSup_pos]

/-- The kernel's sum over all depths. -/
theorem sum_all (v : FVec Ideal S2x224x224 .f32) (hφ) (hacc) (j : S1.Idx) :
    multiReduction .add [1, 2, 3] S1 (shapeCast S1x2x224x224 v shapeCasts_S2x224x224_S1x2x224x224) 0x00000000#32
      reduces_S1x2x224x224_S1 hφ hacc j = ∑ i, v i := by
  refine (Ideal.multiReduction_add_total _ _ _ (by decide) hφ hacc _).trans ?_
  exact (Shape.reshapeEquiv shapeCasts_S2x224x224_S1x2x224x224).sum_comp v

/-- The depths loaded whole are the depths. -/
theorem pay2_eq (x : Vec Ideal S2x224x224 .f32) : k0_pay2 (F := Ideal) x = x := by
  unfold k0_pay2
  exact funext fun i => congrArg x (Shape.reshapeEquiv_self _ i)

/-- The one element of a cast one-element vector all of whose elements are `r`. -/
theorem extract_one (v : FVec Ideal S1 .f32) (r : EReal) (h : ∀ j, v j = r) :
    extractAt ![0, 0, 0, 0] (shapeCast S1x1x1x1 v shapeCasts_S1_S1x1x1x1) inpos_S1x1x1x1_p0_0_0_0 = r := h _

/-- The kernel's scalar minimum is the least depth. -/
theorem pay3_eq (x : Vec Ideal S2x224x224 .f32) : k0_pay3 (F := Ideal) x = least x := by
  unfold k0_pay3
  rw [pay2_eq]
  exact extract_one _ _ fun j => (minimum_all _ j).trans (iInf_shapeCast x _)

/-- The word of ten. -/
theorem ofBits_ten : Ideal.ofBits .f32 0x41200000#32 = ((10 : ℝ) : EReal) := by
  simp [Ideal.ofBits, Ideal.ieee, -EReal.coe_mul]; norm_num

/-- The kernel's step: a difference over ten. -/
theorem div_sub (a b : Ideal .f32) : Scalar.divf (F := Ideal) (Scalar.subf a b) (Scalar.ofBits .f32 0x41200000#32) =
    Ideal.div (a - b) ((10 : ℝ) : EReal) := congrArg (Ideal.div (a - b)) ofBits_ten

/-- The kernel's step: a tenth of the spread of the depths. -/
theorem pay4_eq (x : Vec Ideal S2x224x224 .f32) :
    k0_pay4 (F := Ideal) x = Ideal.div (greatest x - least x) ((10 : ℝ) : EReal) := by
  have h (v : FVec Ideal S1x2x224x224 .f32) (hφ) (hacc) (hv : ⨆ i, v i = greatest x) :
      extractAt ![0, 0, 0, 0] (shapeCast S1x1x1x1 (multiReduction .maximumf [1, 2, 3] S1 v 0xFF800000#32 reduces_S1x2x224x224_S1 hφ hacc)
        shapeCasts_S1_S1x1x1x1) inpos_S1x1x1x1_p0_0_0_0 = greatest x := extract_one _ _ fun j => (maximum_all v hφ hacc j).trans hv
  unfold k0_pay4
  rw [pay3_eq, pay2_eq]
  exact (div_sub _ _).trans (congrArg (fun z : EReal => Ideal.div (z - least x) ((10 : ℝ) : EReal)) (h _ _ _ (iSup_shapeCast x _)))

/-- A truth value widened and converted is one or zero. -/
theorem ite_of_bit (b : BitVec 1) (p : Prop) [Decidable p] (h : b = BitVec.ofBool (decide p)) :
    (FloatOps.sitofp .f32 (b.setWidth 32) : Ideal .f32) = (if p then 1 else 0 : EReal) := by
  subst h
  by_cases hp : p
  · simp only [hp, decide_true, if_true]
    exact (congrArg (fun z : ℤ => ((z : ℝ) : EReal)) (by decide : (((BitVec.ofBool true).setWidth 32).toInt) = 1)).trans (by norm_num)
  · simp only [hp, decide_false, if_false]
    exact (congrArg (fun z : ℤ => ((z : ℝ) : EReal)) (by decide : (((BitVec.ofBool false).setWidth 32).toInt) = 0)).trans (by norm_num)

/-- A mask between two bounds, read at an index. -/
theorem between (v : FVec Ideal S2x224x224 .f32) (a b : EReal) (i : S2x224x224.Idx) :
    (sitofp .f32 (extui 32 (andi (cmpf .oge v (broadcast S2x224x224 (a : Ideal .f32))) (cmpf .olt v (broadcast S2x224x224 (b : Ideal .f32)))) natLt_1_32)
      : FVec Ideal S2x224x224 .f32) i = (open Classical in if a ≤ v i ∧ v i < b then 1 else 0) := by
  refine ite_of_bit _ _ ?_
  show BitVec.ofBool (decide (v i ≥ a)) &&& BitVec.ofBool (decide (v i < b)) = _
  by_cases h1 : a ≤ v i <;> by_cases h2 : v i < b <;> simp [h1, h2]

/-- A mask with a lower bound only, read at an index. -/
theorem above (v : FVec Ideal S2x224x224 .f32) (a : EReal) (i : S2x224x224.Idx) :
    (sitofp .f32 (extui 32 (cmpf .oge v (broadcast S2x224x224 (a : Ideal .f32))) natLt_1_32) : FVec Ideal S2x224x224 .f32) i =
      (open Classical in if a ≤ v i then 1 else 0) := ite_of_bit _ _ rfl

/-- The kernel's lower end of bin `d`, its factor read from the bit pattern `w`. -/
theorem end_eq (x : Vec Ideal S2x224x224 .f32) (w : BitVec 32) (d : ℕ) (h : Ideal.ofBits .f32 w = ((d : ℝ) : EReal)) :
    Scalar.addf (F := Ideal) (φ := .f32) (least x) (Scalar.mulf (Scalar.ofBits .f32 w) (Ideal.div (greatest x - least x) ((10 : ℝ) : EReal))) =
      lower (least x) (greatest x) d := congrArg (fun z => least x + z * Ideal.div (greatest x - least x) ((10 : ℝ) : EReal)) h

/-- The test of a bin before the last is the mask of that bin. -/
theorem mask_of (x : Vec Ideal S2x224x224 .f32) (a b : Ideal .f32) (d : ℕ) (hd : d < 9)
    (ha : a = lower (least x) (greatest x) d) (hb : b = lower (least x) (greatest x) (d + 1)) :
    (sitofp .f32 (extui 32 (andi (cmpf .oge x (broadcast S2x224x224 a)) (cmpf .olt x (broadcast S2x224x224 b))) natLt_1_32)
      : FVec Ideal S2x224x224 .f32) = mask x d := by
  subst ha hb
  funext i
  refine (between x _ _ i).trans ?_
  unfold mask Kept
  simp only [hd, true_implies]

/-- The test of the last bin is its mask. -/
theorem mask_last (x : Vec Ideal S2x224x224 .f32) (a : Ideal .f32) (ha : a = lower (least x) (greatest x) 9) :
    (sitofp .f32 (extui 32 (cmpf .oge x (broadcast S2x224x224 a)) natLt_1_32) : FVec Ideal S2x224x224 .f32) = mask x 9 := by
  subst ha
  funext i
  refine (above x _ i).trans ?_
  unfold mask Kept
  simp only [lt_irrefl, false_implies, and_true]

/-- The bit patterns of the bins' numbers. -/
theorem ofBits_nat0 : Ideal.ofBits .f32 0x00000000#32 = (((0 : ℕ) : ℝ) : EReal) := by simp [Ideal.ofBits_zero_f32]
/-- The word of 1. -/
theorem ofBits_nat1 : Ideal.ofBits .f32 0x3F800000#32 = (((1 : ℕ) : ℝ) : EReal) := by simp [Ideal.ofBits_one_f32]
/-- The word of 2. -/
theorem ofBits_nat2 : Ideal.ofBits .f32 0x40000000#32 = (((2 : ℕ) : ℝ) : EReal) := by
  simp [Ideal.ofBits, Ideal.ieee, -EReal.coe_mul]; norm_num
/-- The word of 3. -/
theorem ofBits_nat3 : Ideal.ofBits .f32 0x40400000#32 = (((3 : ℕ) : ℝ) : EReal) := by
  simp [Ideal.ofBits, Ideal.ieee, -EReal.coe_mul]; norm_num
/-- The word of 4. -/
theorem ofBits_nat4 : Ideal.ofBits .f32 0x40800000#32 = (((4 : ℕ) : ℝ) : EReal) := by
  simp [Ideal.ofBits, Ideal.ieee, -EReal.coe_mul]; norm_num
/-- The word of 5. -/
theorem ofBits_nat5 : Ideal.ofBits .f32 0x40A00000#32 = (((5 : ℕ) : ℝ) : EReal) := by
  simp [Ideal.ofBits, Ideal.ieee, -EReal.coe_mul]; norm_num
/-- The word of 6. -/
theorem ofBits_nat6 : Ideal.ofBits .f32 0x40C00000#32 = (((6 : ℕ) : ℝ) : EReal) := by
  simp [Ideal.ofBits, Ideal.ieee, -EReal.coe_mul]; norm_num
/-- The word of 7. -/
theorem ofBits_nat7 : Ideal.ofBits .f32 0x40E00000#32 = (((7 : ℕ) : ℝ) : EReal) := by
  simp [Ideal.ofBits, Ideal.ieee, -EReal.coe_mul]; norm_num
/-- The word of 8. -/
theorem ofBits_nat8 : Ideal.ofBits .f32 0x41000000#32 = (((8 : ℕ) : ℝ) : EReal) := by
  simp [Ideal.ofBits, Ideal.ieee, -EReal.coe_mul]; norm_num
/-- The word of 9. -/
theorem ofBits_nat9 : Ideal.ofBits .f32 0x41100000#32 = (((9 : ℕ) : ℝ) : EReal) := by
  simp [Ideal.ofBits, Ideal.ieee, -EReal.coe_mul]; norm_num

/-- The ten masks. -/
theorem pay5_eq (x : Vec Ideal S2x224x224 .f32) : k0_pay5 (F := Ideal) x = mask x 0 := by
  unfold k0_pay5
  rw [pay2_eq, pay3_eq, pay4_eq]
  exact mask_of x _ _ 0 (by decide) (end_eq x _ 0 ofBits_nat0) (end_eq x _ 1 ofBits_nat1)

/-- The kernel's test for bin 1 is its mask. -/
theorem pay7_eq (x : Vec Ideal S2x224x224 .f32) : k0_pay7 (F := Ideal) x = mask x 1 := by
  unfold k0_pay7
  rw [pay2_eq, pay3_eq, pay4_eq]
  exact mask_of x _ _ 1 (by decide) (end_eq x _ 1 ofBits_nat1) (end_eq x _ 2 ofBits_nat2)

/-- The kernel's test for bin 2 is its mask. -/
theorem pay10_eq (x : Vec Ideal S2x224x224 .f32) : k0_pay10 (F := Ideal) (k0_pay2 x) (k0_pay3 x) (k0_pay4 x) = mask x 2 := by
  rw [pay2_eq, pay3_eq, pay4_eq]
  exact mask_of x _ _ 2 (by decide) (end_eq x _ 2 ofBits_nat2) (end_eq x _ 3 ofBits_nat3)

/-- The kernel's test for bin 3 is its mask. -/
theorem pay12_eq (x : Vec Ideal S2x224x224 .f32) : k0_pay12 (F := Ideal) (k0_pay2 x) (k0_pay3 x) (k0_pay4 x) = mask x 3 := by
  rw [pay2_eq, pay3_eq, pay4_eq]
  exact mask_of x _ _ 3 (by decide) (end_eq x _ 3 ofBits_nat3) (end_eq x _ 4 ofBits_nat4)

/-- The kernel's test for bin 4 is its mask. -/
theorem pay16_eq (x : Vec Ideal S2x224x224 .f32) :
    k0_pay16 (F := Ideal) (k0_pay14 (k0_pay2 x) (k0_pay3 x) (k0_pay4 x)) (k0_pay15 (k0_pay2 x) (k0_pay3 x) (k0_pay4 x)) = mask x 4 := by
  rw [pay2_eq, pay3_eq, pay4_eq]
  exact mask_of x _ _ 4 (by decide) (end_eq x _ 4 ofBits_nat4) (end_eq x _ 5 ofBits_nat5)

/-- The kernel's test for bin 5 is its mask. -/
theorem pay18_eq (x : Vec Ideal S2x224x224 .f32) : k0_pay18 (F := Ideal) (k0_pay2 x) (k0_pay3 x) (k0_pay4 x) = mask x 5 := by
  rw [pay2_eq, pay3_eq, pay4_eq]
  exact mask_of x _ _ 5 (by decide) (end_eq x _ 5 ofBits_nat5) (end_eq x _ 6 ofBits_nat6)

/-- The kernel's test for bin 6 is its mask. -/
theorem pay20_eq (x : Vec Ideal S2x224x224 .f32) : k0_pay20 (F := Ideal) (k0_pay2 x) (k0_pay3 x) (k0_pay4 x) = mask x 6 := by
  rw [pay2_eq, pay3_eq, pay4_eq]
  exact mask_of x _ _ 6 (by decide) (end_eq x _ 6 ofBits_nat6) (end_eq x _ 7 ofBits_nat7)

/-- The kernel's test for bin 7 is its mask. -/
theorem pay22_eq (x : Vec Ideal S2x224x224 .f32) : k0_pay22 (F := Ideal) (k0_pay2 x) (k0_pay3 x) (k0_pay4 x) (Scalar.ofBits .f32 0x40E00000#32) = mask x 7 := by
  rw [pay2_eq, pay3_eq, pay4_eq]
  exact mask_of x _ _ 7 (by decide) (end_eq x _ 7 ofBits_nat7) (end_eq x _ 8 ofBits_nat8)

/-- The kernel's test for bin 8 is its mask. -/
theorem pay24_eq (x : Vec Ideal S2x224x224 .f32) : k0_pay24 (F := Ideal) (k0_pay2 x) (k0_pay3 x) (k0_pay4 x) = mask x 8 := by
  rw [pay2_eq, pay3_eq, pay4_eq]
  exact mask_of x _ _ 8 (by decide) (end_eq x _ 8 ofBits_nat8) (end_eq x _ 9 ofBits_nat9)

/-- The kernel's test for bin 9 is its mask. -/
theorem pay26_eq (x : Vec Ideal S2x224x224 .f32) : k0_pay26 (F := Ideal) (k0_pay2 x) (k0_pay3 x) (k0_pay4 x) = mask x 9 := by
  rw [pay2_eq, pay3_eq, pay4_eq]
  exact mask_last x _ (end_eq x _ 9 ofBits_nat9)

/-- The smallest count a bin is divided by. -/
def floorCount : EReal := Ideal.ofBits .f32 0x358637BD#32

/-- One over the number of pixels bin `d` keeps, that number raised to the smallest count. -/
def inv (x : Vec Ideal S2x224x224 .f32) (d : ℕ) : EReal := Ideal.div 1 (max (∑ i, mask x d i) floorCount)

/-- One over a count raised to the smallest one, as the kernel's scalars spell it. -/
theorem inv_of (s : Ideal .f32) : Scalar.divf (F := Ideal) (Scalar.ofBits .f32 0x3F800000#32) (Scalar.maximumf s (Scalar.ofBits .f32 0x358637BD#32)) =
    Ideal.div 1 (max s floorCount) := congrArg (fun z => Ideal.div z (max s floorCount)) Ideal.ofBits_one_f32

/-- The total of an array, as the kernel forms it. -/
theorem total_of (v : FVec Ideal S2x224x224 .f32) (hφ) (hacc) :
    extractAt ![0, 0, 0, 0] (shapeCast S1x1x1x1
      (multiReduction .add [1, 2, 3] S1 (shapeCast S1x2x224x224 v shapeCasts_S2x224x224_S1x2x224x224) 0x00000000#32
        reduces_S1x2x224x224_S1 hφ hacc) shapeCasts_S1_S1x1x1x1) inpos_S1x1x1x1_p0_0_0_0 = ∑ i, v i :=
  extract_one _ _ fun j => sum_all v hφ hacc j

end Cert.Pool
-- ==== Proof.Cells.lean ====
/- What the weights kernel leaves in its four result buffers: for each layer, bin, map and cell the mask of the bin
   contracted from both sides with the layer's table of interpolation weights, and for each bin one over its count. -/
module

public import proofs.«01_k».proof.Proof.Masks
public import proofs.«01_k».proof.Proof.Gen.KernelIdeal.Frame
public import Idealize.ShloMosaic.Lib.Pointwise

@[expose] public section

set_option maxRecDepth 16384

noncomputable section

namespace Cert.Pool

open Idealize.ShloMosaic Cert.KernelIdeal Cert.KernelIdeal.Gen

/-- The mask of bin `d` contracted along its columns with a table of weights. -/
def cols {n : ℕ} (x : Vec Ideal S2x224x224 .f32) (A : (⟨2, ![224, n]⟩ : Shape).Idx → EReal) (d : ℕ) (b : Fin 2) (y : Fin 224) (j : Fin n) : EReal :=
  ∑ c : Fin 224, mask x d (ix3 b y c) * A (ix2 c j)

/-- That contracted along its rows with the transposed table: the weight of one cell. -/
def cell {n : ℕ} (x : Vec Ideal S2x224x224 .f32) (At : (⟨2, ![n, 224]⟩ : Shape).Idx → EReal) (A : (⟨2, ![224, n]⟩ : Shape).Idx → EReal)
    (d : ℕ) (b : Fin 2) (i j : Fin n) : EReal :=
  ∑ y : Fin 224, At (ix2 i y) * cols x A d b y j

/-- The cells as the array the kernel stores. -/
def cells {n : ℕ} (x : Vec Ideal S2x224x224 .f32) (At : (⟨2, ![n, 224]⟩ : Shape).Idx → EReal) (A : (⟨2, ![224, n]⟩ : Shape).Idx → EReal) :
    (⟨4, ![10, 2, n, n]⟩ : Shape).Idx → EReal := fun k => cell x At A (k 0).val (k 1) (k 2) (k 3)

/-- A ladder of ten cases, read at a position. -/
theorem ladder {α : Type} (f : ℕ → α) (d : Fin 10) :
    (if _h : d.val < 1 then f 0 else if _h : d.val - 1 < 1 then f 1 else if _h : d.val - 1 - 1 < 1 then f 2
      else if _h : d.val - 1 - 1 - 1 < 1 then f 3 else if _h : d.val - 1 - 1 - 1 - 1 < 1 then f 4
      else if _h : d.val - 1 - 1 - 1 - 1 - 1 < 1 then f 5 else if _h : d.val - 1 - 1 - 1 - 1 - 1 - 1 < 1 then f 6
      else if _h : d.val - 1 - 1 - 1 - 1 - 1 - 1 - 1 < 1 then f 7
      else if _h : d.val - 1 - 1 - 1 - 1 - 1 - 1 - 1 - 1 < 1 then f 8 else f 9) = f d.val := by
  fin_cases d <;> rfl

section Stack

variable (x0 : Vec Ideal S2x224x224 .f32) (x1 : Vec Ideal S224x56 .f32) (x2 : Vec Ideal S56x224 .f32) (x3 : Vec Ideal S224x28 .f32)
  (x4 : Vec Ideal S28x224 .f32) (x5 : Vec Ideal S224x14 .f32) (x6 : Vec Ideal S14x224 .f32)

/-- A load of a whole buffer reads its contents. -/
theorem ld_depths : View.ld x0 r0_0 = x0 := View.ld_unit_zero (by funext a; fin_cases a <;> rfl) _ x0

/-- The load of the first layer's table is the whole table. -/
theorem ld_a1 : View.ld x1 r0_2 = x1 := View.ld_unit_zero (by funext a; fin_cases a <;> rfl) _ x1
/-- The load of the first layer's transposed table is the whole table. -/
theorem ld_at1 : View.ld x2 r0_3 = x2 := View.ld_unit_zero (by funext a; fin_cases a <;> rfl) _ x2
/-- The load of the second layer's table is the whole table. -/
theorem ld_a2 : View.ld x3 r0_24 = x3 := View.ld_unit_zero (by funext a; fin_cases a <;> rfl) _ x3
/-- The load of the second layer's transposed table is the whole table. -/
theorem ld_at2 : View.ld x4 r0_25 = x4 := View.ld_unit_zero (by funext a; fin_cases a <;> rfl) _ x4
/-- The load of the third layer's table is the whole table. -/
theorem ld_a3 : View.ld x5 r0_46 = x5 := View.ld_unit_zero (by funext a; fin_cases a <;> rfl) _ x5
/-- The load of the third layer's transposed table is the whole table. -/
theorem ld_at3 : View.ld x6 r0_47 = x6 := View.ld_unit_zero (by funext a; fin_cases a <;> rfl) _ x6

/-- The ten masks the body keeps are the masks of the ten bins. -/
theorem mask0_eq : k0_pay102 x0 x1 x2 x3 x4 x5 x6 = mask x0 0 := (pay5_eq (View.ld x0 r0_0)).trans (by rw [ld_depths])
/-- The mask kept for bin 1. -/
theorem mask1_eq : k0_pay103 x0 x1 x2 x3 x4 x5 x6 = mask x0 1 := (pay7_eq (View.ld x0 r0_0)).trans (by rw [ld_depths])
/-- The mask kept for bin 2. -/
theorem mask2_eq : k0_pay104 x0 x1 x2 x3 x4 x5 x6 = mask x0 2 := (pay10_eq (View.ld x0 r0_0)).trans (by rw [ld_depths])
/-- The mask kept for bin 3. -/
theorem mask3_eq : k0_pay105 x0 x1 x2 x3 x4 x5 x6 = mask x0 3 := (pay12_eq (View.ld x0 r0_0)).trans (by rw [ld_depths])
/-- The mask kept for bin 4. -/
theorem mask4_eq : k0_pay108 x0 x1 x2 x3 x4 x5 x6 = mask x0 4 := (pay16_eq (View.ld x0 r0_0)).trans (by rw [ld_depths])
/-- The mask kept for bin 5. -/
theorem mask5_eq : k0_pay109 x0 x1 x2 x3 x4 x5 x6 = mask x0 5 := (pay18_eq (View.ld x0 r0_0)).trans (by rw [ld_depths])
/-- The mask kept for bin 6. -/
theorem mask6_eq : k0_pay110 x0 x1 x2 x3 x4 x5 x6 = mask x0 6 := (pay20_eq (View.ld x0 r0_0)).trans (by rw [ld_depths])
/-- The mask kept for bin 7. -/
theorem mask7_eq : k0_pay111 x0 x1 x2 x3 x4 x5 x6 = mask x0 7 := (pay22_eq (View.ld x0 r0_0)).trans (by rw [ld_depths])
/-- The mask kept for bin 8. -/
theorem mask8_eq : k0_pay112 x0 x1 x2 x3 x4 x5 x6 = mask x0 8 := (pay24_eq (View.ld x0 r0_0)).trans (by rw [ld_depths])
/-- The mask kept for bin 9. -/
theorem mask9_eq : k0_pay113 x0 x1 x2 x3 x4 x5 x6 = mask x0 9 := (pay26_eq (View.ld x0 r0_0)).trans (by rw [ld_depths])

/-- The stacked masks contracted with the layer's table, read at an index. -/
theorem cols56_eq (d : Fin 10) (b : Fin 2) (y : Fin 224) (j : Fin 56) :
    k0_pay115 x0 x1 x2 x3 x4 x5 x6 (ix4 d b y j) = cols x0 x1 d.val b y j := by
  unfold k0_pay115
  rw [mask0_eq, mask1_eq, mask2_eq, mask3_eq, mask4_eq, mask5_eq, mask6_eq, mask7_eq, mask8_eq, mask9_eq, ld_a1]
  pointwise [k0_pay30, k0_pay28]
  exact Finset.sum_congr rfl fun c _ => congrArg (· * x1 (ix2 c j)) (ladder (fun k => mask x0 k (ix3 b y c)) d)

/-- The stacked masks contracted with the layer's table, read at an index. -/
theorem cols28_eq (d : Fin 10) (b : Fin 2) (y : Fin 224) (j : Fin 28) :
    k0_pay116 x0 x1 x2 x3 x4 x5 x6 (ix4 d b y j) = cols x0 x3 d.val b y j := by
  unfold k0_pay116 k0_pay114
  rw [mask0_eq, mask1_eq, mask2_eq, mask3_eq, mask4_eq, mask5_eq, mask6_eq, mask7_eq, mask8_eq, mask9_eq, ld_a2]
  pointwise [k0_pay55, k0_pay28]
  exact Finset.sum_congr rfl fun c _ => congrArg (· * x3 (ix2 c j)) (ladder (fun k => mask x0 k (ix3 b y c)) d)

/-- The stacked masks contracted with the layer's table, read at an index. -/
theorem cols14_eq (d : Fin 10) (b : Fin 2) (y : Fin 224) (j : Fin 14) :
    k0_pay117 x0 x1 x2 x3 x4 x5 x6 (ix4 d b y j) = cols x0 x5 d.val b y j := by
  unfold k0_pay117 k0_pay114
  rw [mask0_eq, mask1_eq, mask2_eq, mask3_eq, mask4_eq, mask5_eq, mask6_eq, mask7_eq, mask8_eq, mask9_eq, ld_a3]
  pointwise [k0_pay76, k0_pay28]
  exact Finset.sum_congr rfl fun c _ => congrArg (· * x5 (ix2 c j)) (ladder (fun k => mask x0 k (ix3 b y c)) d)

end Stack

/-- One stored block: the transposed table times one slice of an array. -/
theorem block56 (At : FVec Ideal S56x224 .f32) (T : FVec Ideal S10x2x224x56 .f32) (d b : ℕ)
    (hs : S10x2x224x56.Slices ![d, b, 0, 0] S1x1x224x56) (inb : ∀ a, ![d, b, 0, 0] a + S1x1x56x56.size a ≤ S10x2x56x56.size a)
    (x : S1x1x56x56.Idx) :
    (shapeCast S1x1x56x56 (matmul dot_S56x224_S224x56_S56x56_1_0_0_1_n_n none At (shapeCast S224x56
      (extractStridedSlice S1x1x224x56 ![d, b, 0, 0] T hs) shapeCasts_S1x1x224x56_S224x56 : FVec Ideal S224x56 .f32)
      (constant S56x56 .f32 0x00000000#32)) shapeCasts_S56x56_S1x1x56x56 : FVec Ideal S1x1x56x56 .f32) x =
    (fun k : S10x2x56x56.Idx => ∑ y : Fin 224, At (ix2 (k 2) y) * T (ix4 (k 0) (k 1) y (k 3)))
      ((Rect.unit (s := S10x2x56x56) ![d, b, 0, 0] S1x1x56x56.size inb).emb x) := by
  idx_vars x
  pointwise
  refine Finset.sum_congr rfl fun y _ => ?_
  congr 2
  · funext a
    fin_cases a
    · exact Fin.ext (by simp)
    · rfl
  · funext a
    fin_cases a <;> exact Fin.ext (by simp; try omega)

/-- One stored block: the transposed table times one slice of an array. -/
theorem block28 (At : FVec Ideal S28x224 .f32) (T : FVec Ideal S10x2x224x28 .f32) (d b : ℕ)
    (hs : S10x2x224x28.Slices ![d, b, 0, 0] S1x1x224x28) (inb : ∀ a, ![d, b, 0, 0] a + S1x1x28x28.size a ≤ S10x2x28x28.size a)
    (x : S1x1x28x28.Idx) :
    (shapeCast S1x1x28x28 (matmul dot_S28x224_S224x28_S28x28_1_0_0_1_n_n none At (shapeCast S224x28
      (extractStridedSlice S1x1x224x28 ![d, b, 0, 0] T hs) shapeCasts_S1x1x224x28_S224x28 : FVec Ideal S224x28 .f32)
      (constant S28x28 .f32 0x00000000#32)) shapeCasts_S28x28_S1x1x28x28 : FVec Ideal S1x1x28x28 .f32) x =
    (fun k : S10x2x28x28.Idx => ∑ y : Fin 224, At (ix2 (k 2) y) * T (ix4 (k 0) (k 1) y (k 3)))
      ((Rect.unit (s := S10x2x28x28) ![d, b, 0, 0] S1x1x28x28.size inb).emb x) := by
  idx_vars x
  pointwise
  refine Finset.sum_congr rfl fun y _ => ?_
  congr 2
  · funext a
    fin_cases a
    · exact Fin.ext (by simp)
    · rfl
  · funext a
    fin_cases a <;> exact Fin.ext (by simp; try omega)

/-- One stored block: the transposed table times one slice of an array. -/
theorem block14 (At : FVec Ideal S14x224 .f32) (T : FVec Ideal S10x2x224x14 .f32) (d b : ℕ)
    (hs : S10x2x224x14.Slices ![d, b, 0, 0] S1x1x224x14) (inb : ∀ a, ![d, b, 0, 0] a + S1x1x14x14.size a ≤ S10x2x14x14.size a)
    (x : S1x1x14x14.Idx) :
    (shapeCast S1x1x14x14 (matmul dot_S14x224_S224x14_S14x14_1_0_0_1_n_n none At (shapeCast S224x14
      (extractStridedSlice S1x1x224x14 ![d, b, 0, 0] T hs) shapeCasts_S1x1x224x14_S224x14 : FVec Ideal S224x14 .f32)
      (constant S14x14 .f32 0x00000000#32)) shapeCasts_S14x14_S1x1x14x14 : FVec Ideal S1x1x14x14 .f32) x =
    (fun k : S10x2x14x14.Idx => ∑ y : Fin 224, At (ix2 (k 2) y) * T (ix4 (k 0) (k 1) y (k 3)))
      ((Rect.unit (s := S10x2x14x14) ![d, b, 0, 0] S1x1x14x14.size inb).emb x) := by
  idx_vars x
  pointwise
  refine Finset.sum_congr rfl fun y _ => ?_
  congr 2
  · funext a
    fin_cases a
    · exact Fin.ext (by simp)
    · rfl
  · funext a
    fin_cases a <;> exact Fin.ext (by simp; try omega)

/-- The buffer of the layer's weights after the body. -/
theorem out56_eq (x0 : Vec Ideal S2x224x224 .f32) (x1 : Vec Ideal S224x56 .f32) (x2 : Vec Ideal S56x224 .f32) (x3 : Vec Ideal S224x28 .f32)
    (x4 : Vec Ideal S28x224 .f32) (x5 : Vec Ideal S224x14 .f32) (x6 : Vec Ideal S14x224 .f32) :
    out0_7 x0 x1 x2 x3 x4 x5 x6 = cells x0 x2 x1 := by
  funext k
  unfold out0_7
  rw [ld_at1]
  refine (View.canon_apply_of_pieces (fun k : S10x2x56x56.Idx =>
    ∑ y : Fin 224, x2 (ix2 (k 2) y) * k0_pay115 x0 x1 x2 x3 x4 x5 x6 (ix4 (k 0) (k 1) y (k 3))) _ ?_ k (cover0_7 _ _ _ _ _ _ _ _ _ _ _ _ _ _ _ _ _ _ _ _ k)).trans ?_
  · repeat' (refine List.forall_mem_cons.2 ⟨fun x => block56 x2 _ _ _ _ (by decide) x, ?_⟩)
    exact fun _ h => absurd h List.not_mem_nil
  · exact Finset.sum_congr rfl fun y _ => congrArg (x2 (ix2 (k 2) y) * ·) (cols56_eq x0 x1 x2 x3 x4 x5 x6 (k 0) (k 1) y (k 3))

/-- The buffer of the layer's weights after the body. -/
theorem out28_eq (x0 : Vec Ideal S2x224x224 .f32) (x1 : Vec Ideal S224x56 .f32) (x2 : Vec Ideal S56x224 .f32) (x3 : Vec Ideal S224x28 .f32)
    (x4 : Vec Ideal S28x224 .f32) (x5 : Vec Ideal S224x14 .f32) (x6 : Vec Ideal S14x224 .f32) :
    out0_8 x0 x1 x2 x3 x4 x5 x6 = cells x0 x4 x3 := by
  funext k
  unfold out0_8
  rw [ld_at2]
  refine (View.canon_apply_of_pieces (fun k : S10x2x28x28.Idx =>
    ∑ y : Fin 224, x4 (ix2 (k 2) y) * k0_pay116 x0 x1 x2 x3 x4 x5 x6 (ix4 (k 0) (k 1) y (k 3))) _ ?_ k (cover0_8 _ _ _ _ _ _ _ _ _ _ _ _ _ _ _ _ _ _ _ _ k)).trans ?_
  · repeat' (refine List.forall_mem_cons.2 ⟨fun x => block28 x4 _ _ _ _ (by decide) x, ?_⟩)
    exact fun _ h => absurd h List.not_mem_nil
  · exact Finset.sum_congr rfl fun y _ => congrArg (x4 (ix2 (k 2) y) * ·) (cols28_eq x0 x1 x2 x3 x4 x5 x6 (k 0) (k 1) y (k 3))

/-- The buffer of the layer's weights after the body. -/
theorem out14_eq (x0 : Vec Ideal S2x224x224 .f32) (x1 : Vec Ideal S224x56 .f32) (x2 : Vec Ideal S56x224 .f32) (x3 : Vec Ideal S224x28 .f32)
    (x4 : Vec Ideal S28x224 .f32) (x5 : Vec Ideal S224x14 .f32) (x6 : Vec Ideal S14x224 .f32) :
    out0_9 x0 x1 x2 x3 x4 x5 x6 = cells x0 x6 x5 := by
  funext k
  unfold out0_9
  rw [ld_at3]
  refine (View.canon_apply_of_pieces (fun k : S10x2x14x14.Idx =>
    ∑ y : Fin 224, x6 (ix2 (k 2) y) * k0_pay117 x0 x1 x2 x3 x4 x5 x6 (ix4 (k 0) (k 1) y (k 3))) _ ?_ k (cover0_9 _ _ _ _ _ _ _ _ _ _ _ _ _ _ _ _ _ _ _ _ k)).trans ?_
  · repeat' (refine List.forall_mem_cons.2 ⟨fun x => block14 x6 _ _ _ _ (by decide) x, ?_⟩)
    exact fun _ h => absurd h List.not_mem_nil
  · exact Finset.sum_congr rfl fun y _ => congrArg (x6 (ix2 (k 2) y) * ·) (cols14_eq x0 x1 x2 x3 x4 x5 x6 (k 0) (k 1) y (k 3))

end Cert.Pool
-- ==== Proof.Inv.lean ====
/- What the weights kernel leaves in its buffer of inverse counts. -/
module

public import proofs.«01_k».proof.Proof.Cells

@[expose] public section

set_option maxRecDepth 16384

noncomputable section

namespace Cert.Pool

open Idealize.ShloMosaic Cert.KernelIdeal Cert.KernelIdeal.Gen

/-- One over the raised total of a mask is the inverse count. -/
theorem over_total (x : Vec Ideal S2x224x224 .f32) (d : ℕ) (hφ) (hacc) :
    Scalar.divf (F := Ideal) (Scalar.ofBits .f32 0x3F800000#32) (Scalar.maximumf (extractAt ![0, 0, 0, 0] (shapeCast S1x1x1x1
      (multiReduction .add [1, 2, 3] S1 (shapeCast S1x2x224x224 (mask x d : FVec Ideal S2x224x224 .f32) shapeCasts_S2x224x224_S1x2x224x224) 0x00000000#32
        reduces_S1x2x224x224_S1 hφ hacc) shapeCasts_S1_S1x1x1x1) inpos_S1x1x1x1_p0_0_0_0) (Scalar.ofBits .f32 0x358637BD#32)) = inv x d :=
  (inv_of _).trans (congrArg (fun z => Ideal.div 1 (max z floorCount)) (total_of _ hφ hacc))

/-- The ten inverse counts the body forms are those of the ten bins. -/
theorem inv0_eq (x : Vec Ideal S2x224x224 .f32) (j) : k0_pay6 (F := Ideal) x j = inv x 0 := by
  unfold k0_pay6
  rw [pay5_eq]
  exact over_total x 0 _ _
/-- The inverse count of bin 1. -/
theorem inv1_eq (x : Vec Ideal S2x224x224 .f32) (j) : k0_pay9 (F := Ideal) (k0_pay8 x) (Scalar.ofBits .f32 0x358637BD#32) j = inv x 1 := by
  unfold k0_pay9 k0_pay8
  rw [pay7_eq]
  exact over_total x 1 _ _
/-- The inverse count of bin 2. -/
theorem inv2_eq (x : Vec Ideal S2x224x224 .f32) (j) : k0_pay11 (F := Ideal) (k0_pay2 x) (k0_pay3 x) (k0_pay4 x) j = inv x 2 := by
  unfold k0_pay11
  rw [pay10_eq]
  exact over_total x 2 _ _
/-- The inverse count of bin 3. -/
theorem inv3_eq (x : Vec Ideal S2x224x224 .f32) (j) : k0_pay13 (F := Ideal) (k0_pay2 x) (k0_pay3 x) (k0_pay4 x) j = inv x 3 := by
  unfold k0_pay13
  rw [pay12_eq]
  exact over_total x 3 _ _
/-- The inverse count of bin 4. -/
theorem inv4_eq (x : Vec Ideal S2x224x224 .f32) (j) : k0_pay17 (F := Ideal) (k0_pay14 (k0_pay2 x) (k0_pay3 x) (k0_pay4 x))
    (k0_pay15 (k0_pay2 x) (k0_pay3 x) (k0_pay4 x)) j = inv x 4 := by
  unfold k0_pay17
  rw [pay16_eq]
  exact over_total x 4 _ _
/-- The inverse count of bin 5. -/
theorem inv5_eq (x : Vec Ideal S2x224x224 .f32) (j) : k0_pay19 (F := Ideal) (k0_pay2 x) (k0_pay3 x) (k0_pay4 x) j = inv x 5 := by
  unfold k0_pay19
  rw [pay18_eq]
  exact over_total x 5 _ _
/-- The inverse count of bin 6. -/
theorem inv6_eq (x : Vec Ideal S2x224x224 .f32) (j) : k0_pay21 (F := Ideal) (k0_pay2 x) (k0_pay3 x) (k0_pay4 x) j = inv x 6 := by
  unfold k0_pay21
  rw [pay20_eq]
  exact over_total x 6 _ _
/-- The inverse count of bin 7. -/
theorem inv7_eq (x : Vec Ideal S2x224x224 .f32) (j) :
    k0_pay23 (F := Ideal) (k0_pay2 x) (k0_pay3 x) (k0_pay4 x) (Scalar.ofBits .f32 0x40E00000#32) j = inv x 7 := by
  unfold k0_pay23
  rw [pay22_eq]
  exact over_total x 7 _ _
/-- The inverse count of bin 8. -/
theorem inv8_eq (x : Vec Ideal S2x224x224 .f32) (j) : k0_pay25 (F := Ideal) (k0_pay2 x) (k0_pay3 x) (k0_pay4 x) j = inv x 8 := by
  unfold k0_pay25
  rw [pay24_eq]
  exact over_total x 8 _ _
/-- The inverse count of bin 9. -/
theorem inv9_eq (x : Vec Ideal S2x224x224 .f32) :
    Scalar.divf (F := Ideal) (Scalar.ofBits .f32 0x3F800000#32) (k0_pay27 (k0_pay2 x) (k0_pay3 x) (k0_pay4 x)) = inv x 9 := by
  unfold k0_pay27
  rw [pay26_eq]
  exact over_total x 9 _ _

/-- Ten one-element rows side by side, the last given by its scalar, read at a column. -/
theorem row_eq (f : ℕ → EReal) (v0 v1 v2 v3 v4 v5 v6 v7 v8 : FVec Ideal S1x1 .f32) (a b : Ideal .f32) (h0 : ∀ j, v0 j = f 0) (h1 : ∀ j, v1 j = f 1)
    (h2 : ∀ j, v2 j = f 2) (h3 : ∀ j, v3 j = f 3) (h4 : ∀ j, v4 j = f 4) (h5 : ∀ j, v5 j = f 5) (h6 : ∀ j, v6 j = f 6) (h7 : ∀ j, v7 j = f 7)
    (h8 : ∀ j, v8 j = f 8) (h9 : Scalar.divf b a = f 9) (z : Fin 1) (d : Fin 10) : k0_pay29 v0 v1 v2 v3 v4 v5 v6 v7 v8 a b (ix2 z d) = f d.val := by
  unfold k0_pay29
  rw [h9]
  pointwise
  simp only [h0, h1, h2, h3, h4, h5, h6, h7, h8]
  exact ladder f d

/-- The buffer of the inverse counts after the body. -/
theorem inv_eq (x0 : Vec Ideal S2x224x224 .f32) (x1 : Vec Ideal S224x56 .f32) (x2 : Vec Ideal S56x224 .f32) (x3 : Vec Ideal S224x28 .f32)
    (x4 : Vec Ideal S28x224 .f32) (x5 : Vec Ideal S224x14 .f32) (x6 : Vec Ideal S14x224 .f32) :
    out0_10 x0 x1 x2 x3 x4 x5 x6 = fun k : S1x10.Idx => inv x0 (k 1).val := by
  funext k
  obtain ⟨z, d, rfl⟩ : ∃ (z : Fin 1) (d : Fin 10), k = ix2 z d := ⟨k 0, k 1, eq_ix2 k⟩
  unfold out0_10
  rw [View.canon_unit_zero (by funext a; fin_cases a <;> rfl)]
  unfold k0_pay106 k0_pay107 k0_pay101
  rw [ld_depths]
  exact row_eq (inv x0) _ _ _ _ _ _ _ _ _ _ _ (inv0_eq x0) (inv1_eq x0) (inv2_eq x0) (inv3_eq x0) (inv4_eq x0) (inv5_eq x0) (inv6_eq x0)
    (inv7_eq x0) (inv8_eq x0) (inv9_eq x0) z d

end Cert.Pool
-- ==== Proof.Contract.lean ====
/- What the second kernel's body leaves in its result block: per layer, the two batches' products of the features with the
   cell weights, added and scaled by the inverse counts; zero past a layer's channels. -/
module

public import proofs.«01_k».proof.Proof.Cells
public import Idealize.ShloMosaic.Lib.Pipeline.ValueKit
public import Idealize.ShloMosaic.Lib.Pipeline.ReadBack

@[expose] public section

set_option maxRecDepth 16384

noncomputable section

namespace Cert.Pool

open Idealize.ShloMosaic Cert.KernelIdeal Cert.KernelIdeal.Gen

/-- Rows `r` (first batch) and `s` (second batch) of the features against bin `d`'s cell weights, scaled. -/
def pooled {R N : ℕ} (x : (⟨2, ![R, N]⟩ : Shape).Idx → EReal) (w : (⟨3, ![2, 10, N]⟩ : Shape).Idx → EReal)
    (q : S1x10.Idx → EReal) (r s : Fin R) (d : Fin 10) : EReal :=
  (∑ p, x (ix2 r p) * w (ix3 0 d p) + ∑ p, x (ix2 s p) * w (ix3 1 d p)) * q (ix2 0 d)

/-- The first layer's stored block at an index. -/
theorem pay5_at (q : Vec Ideal S1x10 .f32) (a : Vec Ideal S96x3136 .f32) (w : Vec Ideal S1x10x3136 .f32) (b : Vec Ideal S96x3136 .f32)
    (v : Vec Ideal S1x10x3136 .f32) (u : Fin 1) (c : Fin 96) (d : Fin 10) :
    k1_pay5 (F := Ideal) q a w b v (ix3 u c d)
      = (∑ p, a (ix2 c p) * w (ix3 0 d p) + ∑ p, b (ix2 c p) * v (ix3 0 d p)) * q (ix2 0 d) := by
  unfold k1_pay5 k1_pay3
  pointwise

/-- The second layer's stored block at an index. -/
theorem pay1_at (q : Vec Ideal S1x10 .f32) (a : Vec Ideal S192x784 .f32) (w : Vec Ideal S1x10x784 .f32) (b : Vec Ideal S192x784 .f32)
    (v : Vec Ideal S1x10x784 .f32) (u : Fin 1) (c : Fin 192) (d : Fin 10) :
    k1_pay1 (F := Ideal) (k1_pay3 q) (k1_pay6 a w) (k1_pay7 b) v (ix3 u c d)
      = (∑ p, a (ix2 c p) * w (ix3 0 d p) + ∑ p, b (ix2 c p) * v (ix3 0 d p)) * q (ix2 0 d) := by
  unfold k1_pay1 k1_pay3 k1_pay6 k1_pay7
  pointwise

/-- The third layer's stored block at an index. -/
theorem pay2_at (q : Vec Ideal S1x10 .f32) (a : Vec Ideal S384x196 .f32) (w : Vec Ideal S1x10x196 .f32) (b : Vec Ideal S384x196 .f32)
    (v : Vec Ideal S1x10x196 .f32) (u : Fin 1) (c : Fin 384) (d : Fin 10) :
    k1_pay2 (F := Ideal) (k1_pay3 q) a w b v (ix3 u c d)
      = (∑ p, a (ix2 c p) * w (ix3 0 d p) + ∑ p, b (ix2 c p) * v (ix3 0 d p)) * q (ix2 0 d) := by
  unfold k1_pay2 k1_pay3
  pointwise

/-- The result block: layer by layer, the pooled features of the layer's channels, zero past them. -/
def contracted (x0 : S192x3136.Idx → EReal) (x1 : S384x784.Idx → EReal) (x2 : S768x196.Idx → EReal) (x3 : S2x10x3136.Idx → EReal)
    (x4 : S2x10x784.Idx → EReal) (x5 : S2x10x196.Idx → EReal) (x6 : S1x10.Idx → EReal) (l : Fin 3) (c : Fin 384) (d : Fin 10) : EReal :=
  if l = 0 then
    if h : c.val < 96 then pooled x0 x3 x6 ⟨c.val, by omega⟩ ⟨96 + c.val, by omega⟩ d else 0
  else if l = 1 then
    if h : c.val < 192 then pooled x1 x4 x6 ⟨c.val, by omega⟩ ⟨192 + c.val, by omega⟩ d else 0
  else pooled x2 x5 x6 ⟨c.val, by omega⟩ ⟨384 + c.val, by omega⟩ d

/-- A block stored at the first channels of one layer, read at an element: the block where it holds the element, what was
    there before elsewhere. -/
theorem store_at (l R : ℕ) (inb : ∀ a, ![l, 0, 0] a + ![1, R, 10] a ≤ S3x384x10.size a)
    (w : (⟨3, ![1, R, 10]⟩ : Shape).Idx → EReal) (L : List (View.Piece (Elt Ideal) S3x384x10 .f32)) (p : Fin 3) (e : Fin 384) (d : Fin 10) :
    View.canon (Val := Elt Ideal) (⟨Rect.unit (s := S3x384x10) ![l, 0, 0] ![1, R, 10] inb, w⟩ :: L) (ix3 p e d)
      = if h : p.val = l ∧ e.val < R then w (ix3 0 ⟨e.val, h.2⟩ d) else View.canon (Val := Elt Ideal) L (ix3 p e d) := by
  split
  · next h =>
    rw [show (ix3 p e d : S3x384x10.Idx) = (Rect.unit (s := S3x384x10) ![l, 0, 0] ![1, R, 10] inb).emb (ix3 0 ⟨e.val, h.2⟩ d) from
      funext fun a => by fin_cases a <;> exact Fin.ext (by simp [h.1])]
    exact View.canon_cons_emb _ _ _ _
  · next h =>
    refine View.canon_cons_of_not_mem _ _ fun hm => h ?_
    have h0 := (Rect.mem_set_unit (inb := inb).1 hm) 0
    have h1 := (Rect.mem_set_unit (inb := inb).1 hm) 1
    simp at h0 h1
    omega

/-- The zeros stored first, read at an element. -/
theorem zeros_at (inb : ∀ a, ![0, 0, 0] a + ![3, 384, 10] a ≤ S3x384x10.size a) (k : S3x384x10.Idx) :
    View.canon (Val := Elt Ideal) (e := .f32) [⟨Rect.unit (s := S3x384x10) ![0, 0, 0] ![3, 384, 10] inb, k1_pay4 (F := Ideal)⟩] k = 0 := by
  have hz : (![0, 0, 0] : Fin S3x384x10.rank → Nat) = fun _ => 0 := funext fun a => by fin_cases a <;> rfl
  refine (congrFun (View.canon_unit_zero (Val := Elt Ideal) (e := .f32) hz inb (k1_pay4 (F := Ideal))) k).trans ?_
  exact Ideal.ofBits_zero_f32

/-- A load of rows of a matrix, read at an element. -/
theorem rows_at {M R N : ℕ} (x : (⟨2, ![M, N]⟩ : Shape).Idx → EReal) (o : ℕ)
    (inb : ∀ a, ![o, 0] a + ![R, N] a ≤ (⟨2, ![M, N]⟩ : Shape).size a) (r : Fin R) (p : Fin N) :
    View.ld (Val := Elt Ideal) (e' := .f32) x (Rect.unit (s := ⟨2, ![M, N]⟩) ![o, 0] ![R, N] inb) (ix2 r p)
      = x (ix2 ⟨o + r.val, (Nat.add_lt_add_left r.isLt o).trans_le (inb 0)⟩ p) :=
  congrArg x (funext fun a => by fin_cases a <;> exact Fin.ext (by simp))

/-- A load of one plane of a stack, read at an element. -/
theorem plane_at {N : ℕ} (x : (⟨3, ![2, 10, N]⟩ : Shape).Idx → EReal) (o : ℕ)
    (inb : ∀ a, ![o, 0, 0] a + ![1, 10, N] a ≤ (⟨3, ![2, 10, N]⟩ : Shape).size a) (u : Fin 1) (d : Fin 10) (p : Fin N) :
    View.ld (Val := Elt Ideal) (e' := .f32) x (Rect.unit (s := ⟨3, ![2, 10, N]⟩) ![o, 0, 0] ![1, 10, N] inb) (ix3 u d p)
      = x (ix3 ⟨o, inb 0⟩ d p) :=
  congrArg x (funext fun a => by fin_cases a <;> exact Fin.ext (by simp))

/-- One layer's sums over what its loads hold, as sums over the whole operands. -/
theorem layer_at {M R N : ℕ} (x : (⟨2, ![M, N]⟩ : Shape).Idx → EReal) (w : (⟨3, ![2, 10, N]⟩ : Shape).Idx → EReal) (q : S1x10.Idx → EReal)
    (inb0 : ∀ a, ![0, 0] a + ![R, N] a ≤ (⟨2, ![M, N]⟩ : Shape).size a) (inb1 : ∀ a, ![R, 0] a + ![R, N] a ≤ (⟨2, ![M, N]⟩ : Shape).size a)
    (inw0 : ∀ a, ![0, 0, 0] a + ![1, 10, N] a ≤ (⟨3, ![2, 10, N]⟩ : Shape).size a)
    (inw1 : ∀ a, ![1, 0, 0] a + ![1, 10, N] a ≤ (⟨3, ![2, 10, N]⟩ : Shape).size a) (e : Fin R) (d : Fin 10) (r s : Fin M)
    (hr : r.val = e.val) (hs : s.val = R + e.val) :
    (∑ p : Fin N, View.ld (Val := Elt Ideal) (e' := .f32) x (Rect.unit (s := ⟨2, ![M, N]⟩) ![0, 0] ![R, N] inb0) (ix2 e p)
          * View.ld (Val := Elt Ideal) (e' := .f32) w (Rect.unit (s := ⟨3, ![2, 10, N]⟩) ![0, 0, 0] ![1, 10, N] inw0) (ix3 0 d p)
        + ∑ p : Fin N, View.ld (Val := Elt Ideal) (e' := .f32) x (Rect.unit (s := ⟨2, ![M, N]⟩) ![R, 0] ![R, N] inb1) (ix2 e p)
          * View.ld (Val := Elt Ideal) (e' := .f32) w (Rect.unit (s := ⟨3, ![2, 10, N]⟩) ![1, 0, 0] ![1, 10, N] inw1) (ix3 0 d p)) * q (ix2 0 d)
      = pooled x w q r s d := by
  unfold pooled
  obtain ⟨r, hr'⟩ := r
  obtain ⟨s, hs'⟩ := s
  dsimp only at hr hs
  subst hr hs
  refine congrArg (· * q (ix2 0 d)) (congrArg₂ (· + ·) (Finset.sum_congr rfl fun p _ => ?_) (Finset.sum_congr rfl fun p _ => ?_))
  · refine congrArg₂ (· * ·) ((rows_at x 0 inb0 e p).trans (congrArg x ?_)) (plane_at w 0 inw0 0 d p)
    exact congrArg (ix2 · p) (Fin.ext (Nat.zero_add _))
  · exact congrArg₂ (· * ·) (rows_at x R inb1 e p) (plane_at w 1 inw1 0 d p)

section Pieces

variable (x0 : Vec Ideal S192x3136 .f32) (x1 : Vec Ideal S384x784 .f32) (x2 : Vec Ideal S768x196 .f32)
  (x3 : Vec Ideal S2x10x3136 .f32) (x4 : Vec Ideal S2x10x784 .f32) (x5 : Vec Ideal S2x10x196 .f32) (x6 : Vec Ideal S1x10 .f32)

/-- The body's stores over one another are `contracted`. -/
theorem out_eq (c : Dev nD) (t : Fin cfg1.N) (l : Fin 3) (e : Fin 384) (d : Fin 10) :
    out1_A_7 c (ms1_0 t) (hs1_0 t) (ms1_1 t) (hs1_1 t) (ms1_2 t) (hs1_2 t) (ms1_3 t) (hs1_3 t) (ms1_4 t) (hs1_4 t) (ms1_5 t) (hs1_5 t)
      (ms1_6 t) (hs1_6 t) (ms1_7 t) (hs1_7 t) x0 x1 x2 x3 x4 x5 x6 (ix3 l e d) = contracted x0 x1 x2 x3 x4 x5 x6 l e d := by
  frame_out
  simp only [read_unread_whole]
  refine (store_at 2 384 _ _ _ l e d).trans ?_
  rw [store_at 1 192, store_at 0 96, zeros_at]
  simp only [pay2_at, pay1_at, pay5_at]
  unfold contracted
  have he := e.isLt
  fin_cases l <;> simp [he]
  · split
    · exact layer_at x0 x3 x6 _ _ _ _ _ _ _ _ rfl rfl
    · rfl
  · split
    · exact layer_at x1 x4 x6 _ _ _ _ _ _ _ _ rfl rfl
    · rfl
  · exact layer_at x2 x5 x6 _ _ _ _ _ _ _ _ rfl rfl

end Pieces

end Cert.Pool
-- ==== Proof.KernelRun.lean ====
/- The kernel's run, naming what it leaves in the result array: the launch of the generated certificate, its last boundary
   read at the result array as well as at the arguments. -/
module

public import proofs.«01_k».proof.Proof.Gen.KernelIdeal.Frame
public import Idealize.ShloMosaic.Lib.Claim

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run from any launch: the result array ends as the last boundary has it, the arguments as launched. -/
theorem run_result : θ_run defs (onTc (τ := τ) (main (F := F))) ⟨m, fun _ => 0, ρ⟩ (fun r => (∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.Pool
-- ==== Proof.KernelValue.lean ====
/- The kernel's result array at an index, as a function of the arguments: the first kernel's arrays laid out by the host
   and taken by the second. -/
module

public import proofs.«01_k».proof.Proof.Inv
public import proofs.«01_k».proof.Proof.Contract
public import proofs.«01_k».proof.Proof.KernelRun
public import Idealize.ShloMosaic.Lib.Pipeline.ValueKit

@[expose] public section

set_option maxRecDepth 16384

noncomputable section

namespace Cert.Pool

open Idealize.ShloMosaic Cert.KernelIdeal Cert.KernelIdeal.Gen Idealize.ShloMosaic.TcCoe

variable (m : (ℓ : Loc nD τ sig) → Buf (Elt Ideal) ℓ) (ρ : Dev nD → PrngReg) (c : Dev nD)

/-- A window that is its whole array reads the array. -/
theorem whole0 (V : (c : Dev nD) → (b : Ref sig .tc) → Buf (Elt Ideal) ((c : Thread nD τ).loc b)) :
    iblk0 V c 0 t0_0 = V c main_v0 ∧ iblk0 V c 1 t0_0 = V c main_cst ∧ iblk0 V c 2 t0_0 = V c main_cst_0 ∧ iblk0 V c 3 t0_0 = V c main_cst_1
    ∧ iblk0 V c 4 t0_0 = V c main_cst_2 ∧ iblk0 V c 5 t0_0 = V c main_cst_3 ∧ iblk0 V c 6 t0_0 = V c main_cst_4 := by
  refine ⟨?_, ?_, ?_, ?_, ?_, ?_, ?_⟩ <;>
    exact Memref.read_access_unit_zero (Elt Ideal) _ (funext fun a => by fin_cases a <;> decide) (fun a => by fin_cases a <;> decide) _

/-- A window that is its whole array reads the array. -/
theorem whole1 (V : (c : Dev nD) → (b : Ref sig .tc) → Buf (Elt Ideal) ((c : Thread nD τ).loc b)) :
    iblk1 V c 0 t1_0 = V c main_v2 ∧ iblk1 V c 1 t1_0 = V c main_v3 ∧ iblk1 V c 2 t1_0 = V c main_v4 ∧ iblk1 V c 3 t1_0 = V c main_v6
    ∧ iblk1 V c 4 t1_0 = V c main_v8 ∧ iblk1 V c 5 t1_0 = V c main_v10 ∧ iblk1 V c 6 t1_0 = V c main_v1_3 := by
  refine ⟨?_, ?_, ?_, ?_, ?_, ?_, ?_⟩ <;>
    exact Memref.read_access_unit_zero (Elt Ideal) _ (funext fun a => by fin_cases a <;> decide) (fun a => by fin_cases a <;> decide) _

/-- The depths as the kernel takes them: two maps of 224 by 224. -/
def depths : S2x224x224.Idx → EReal :=
  shapeCast S2x224x224 (m ((c : Thread nD τ).loc main_arg3)) shapeCasts_S2x1x224x224_S2x224x224

/-- The first layer's table: samples by cells. -/
def tab1 : S224x56.Idx → EReal := fun i => Ideal.ofBits .f32 (lit0 (S224x56.rowMajor i))
/-- The first layer's transposed table: cells by samples. -/
def tab1t : S56x224.Idx → EReal := fun i => Ideal.ofBits .f32 (lit1 (S56x224.rowMajor i))
/-- The second layer's table: samples by cells. -/
def tab2 : S224x28.Idx → EReal := fun i => Ideal.ofBits .f32 (lit2 (S224x28.rowMajor i))
/-- The second layer's transposed table: cells by samples. -/
def tab2t : S28x224.Idx → EReal := fun i => Ideal.ofBits .f32 (lit3 (S28x224.rowMajor i))
/-- The third layer's table: samples by cells. -/
def tab3 : S224x14.Idx → EReal := fun i => Ideal.ofBits .f32 (lit4 (S224x14.rowMajor i))
/-- The third layer's transposed table: cells by samples. -/
def tab3t : S14x224.Idx → EReal := fun i => Ideal.ofBits .f32 (lit5 (S14x224.rowMajor i))

/-- The first kernel takes the depths without their unit axis. -/
theorem first_depths : V1 (F := Ideal) m ρ c main_v0 = depths m c := rfl
/-- The first kernel takes the first layer's table. -/
theorem first_tab1 : V1 (F := Ideal) m ρ c main_cst = tab1 := rfl
/-- The first kernel takes the first layer's transposed table. -/
theorem first_tab1t : V1 (F := Ideal) m ρ c main_cst_0 = tab1t := rfl
/-- The first kernel takes the second layer's table. -/
theorem first_tab2 : V1 (F := Ideal) m ρ c main_cst_1 = tab2 := rfl
/-- The first kernel takes the second layer's transposed table. -/
theorem first_tab2t : V1 (F := Ideal) m ρ c main_cst_2 = tab2t := rfl
/-- The first kernel takes the third layer's table. -/
theorem first_tab3 : V1 (F := Ideal) m ρ c main_cst_3 = tab3 := rfl
/-- The first kernel takes the third layer's transposed table. -/
theorem first_tab3t : V1 (F := Ideal) m ρ c main_cst_4 = tab3t := rfl

/-- After the first kernel: the first layer's cell weights. -/
theorem cells1 : W2 m ρ c (Proc.devRef .tc main_v1_0) = cells (depths m c) tab1t tab1 := by
  refine (W2_arr m ρ c 7).trans ?_
  refine (dat0 (V1 m ρ) c).arrAt_eq_of_after_last 7 t0_0 (by decide +kernel) _ fun j => ?_
  blk_simp
  obtain ⟨h0, h1, h2, -⟩ := whole0 (c := c) (V1 m ρ)
  rw [after0_7, out56_eq, h0, h1, h2]
  rfl

/-- After the first kernel: the second layer's cell weights. -/
theorem cells2 : W2 m ρ c (Proc.devRef .tc main_v1_1) = cells (depths m c) tab2t tab2 := by
  refine (W2_arr m ρ c 8).trans ?_
  refine (dat0 (V1 m ρ) c).arrAt_eq_of_after_last 8 t0_0 (by decide +kernel) _ fun j => ?_
  blk_simp
  obtain ⟨h0, -, -, h1, h2, -⟩ := whole0 (c := c) (V1 m ρ)
  rw [after0_8, out28_eq, h0, h1, h2]
  rfl

/-- After the first kernel: the third layer's cell weights. -/
theorem cells3 : W2 m ρ c (Proc.devRef .tc main_v1_2) = cells (depths m c) tab3t tab3 := by
  refine (W2_arr m ρ c 9).trans ?_
  refine (dat0 (V1 m ρ) c).arrAt_eq_of_after_last 9 t0_0 (by decide +kernel) _ fun j => ?_
  blk_simp
  obtain ⟨h0, -, -, -, -, h1, h2⟩ := whole0 (c := c) (V1 m ρ)
  rw [after0_9, out14_eq, h0, h1, h2]
  rfl

/-- After the first kernel: the inverse counts. -/
theorem counts : W2 m ρ c (Proc.devRef .tc main_v1_3) = fun k : S1x10.Idx => inv (depths m c) (k 1).val := by
  refine (W2_arr m ρ c 10).trans ?_
  refine (dat0 (V1 m ρ) c).arrAt_eq_of_after_last 10 t0_0 (by decide +kernel) _ fun j => ?_
  blk_simp
  obtain ⟨h0, -⟩ := whole0 (c := c) (V1 m ρ)
  rw [after0_10, inv_eq, h0]
  rfl

/-- The first layer's map as rows of cells. -/
def feats1 : S192x3136.Idx → EReal :=
  shapeCast S192x3136 (m ((c : Thread nD τ).loc main_arg0)) shapeCasts_S2x96x56x56_S192x3136
/-- The second layer's map as rows of cells. -/
def feats2 : S384x784.Idx → EReal :=
  shapeCast S384x784 (m ((c : Thread nD τ).loc main_arg1)) shapeCasts_S2x192x28x28_S384x784
/-- The third layer's map as rows of cells. -/
def feats3 : S768x196.Idx → EReal :=
  shapeCast S768x196 (m ((c : Thread nD τ).loc main_arg2)) shapeCasts_S2x384x14x14_S768x196
/-- The first layer's cell weights, the map's axis first and the cells laid in a row. -/
def flat1 (w : S10x2x56x56.Idx → EReal) : S2x10x3136.Idx → EReal :=
  shapeCast S2x10x3136 (transpose S2x10x56x56 [1, 0, 2, 3] w transposes_S10x2x56x56_S2x10x56x56_1_0_2_3) shapeCasts_S2x10x56x56_S2x10x3136
/-- The second layer's cell weights, the map's axis first and the cells laid in a row. -/
def flat2 (w : S10x2x28x28.Idx → EReal) : S2x10x784.Idx → EReal :=
  shapeCast S2x10x784 (transpose S2x10x28x28 [1, 0, 2, 3] w transposes_S10x2x28x28_S2x10x28x28_1_0_2_3) shapeCasts_S2x10x28x28_S2x10x784
/-- The third layer's cell weights, the map's axis first and the cells laid in a row. -/
def flat3 (w : S10x2x14x14.Idx → EReal) : S2x10x196.Idx → EReal :=
  shapeCast S2x10x196 (transpose S2x10x14x14 [1, 0, 2, 3] w transposes_S10x2x14x14_S2x10x14x14_1_0_2_3) shapeCasts_S2x10x14x14_S2x10x196

/-- The second kernel takes the first one's weights of the first layer, laid out by the host. -/
theorem second_w1 : V3 (F := Ideal) m ρ c main_v6 = flat1 (W2 m ρ c (Proc.devRef .tc main_v1_0)) := rfl
/-- The second kernel takes the first one's weights of the second layer, laid out by the host. -/
theorem second_w2 : V3 (F := Ideal) m ρ c main_v8 = flat2 (W2 m ρ c (Proc.devRef .tc main_v1_1)) := rfl
/-- The second kernel takes the first one's weights of the third layer, laid out by the host. -/
theorem second_w3 : V3 (F := Ideal) m ρ c main_v10 = flat3 (W2 m ρ c (Proc.devRef .tc main_v1_2)) := rfl
/-- The second kernel takes the first layer's map as rows of cells. -/
theorem second_f1 : V3 (F := Ideal) m ρ c main_v2 = feats1 m c := by
  refine (show _ = shapeCast S192x3136 (W2 m ρ c (Proc.devRef .tc main_arg0)) shapeCasts_S2x96x56x56_S192x3136 from rfl).trans ?_
  rw [W2_args m ρ c main_arg0 (by decide)]
  rfl
/-- The second kernel takes the second layer's map as rows of cells. -/
theorem second_f2 : V3 (F := Ideal) m ρ c main_v3 = feats2 m c := by
  refine (show _ = shapeCast S384x784 (W2 m ρ c (Proc.devRef .tc main_arg1)) shapeCasts_S2x192x28x28_S384x784 from rfl).trans ?_
  rw [W2_args m ρ c main_arg1 (by decide)]
  rfl
/-- The second kernel takes the third layer's map as rows of cells. -/
theorem second_f3 : V3 (F := Ideal) m ρ c main_v4 = feats3 m c := by
  refine (show _ = shapeCast S768x196 (W2 m ρ c (Proc.devRef .tc main_arg2)) shapeCasts_S2x384x14x14_S768x196 from rfl).trans ?_
  rw [W2_args m ρ c main_arg2 (by decide)]
  rfl
/-- The second kernel takes the first one's inverse counts. -/
theorem second_ic : V3 (F := Ideal) m ρ c main_v1_3 = W2 m ρ c (Proc.devRef .tc main_v1_3) := W3_of m ρ c main_v1_3 (by decide)

/-- The result array at an index. -/
theorem kernel_at (l : Fin 3) (e : Fin 384) (d : Fin 10) :
    W4 m ρ c (Proc.devRef .tc main_v11) (ix3 l e d)
      = contracted (feats1 m c) (feats2 m c) (feats3 m c) (flat1 (cells (depths m c) tab1t tab1)) (flat2 (cells (depths m c) tab2t tab2))
          (flat3 (cells (depths m c) tab3t tab3)) (fun k : S1x10.Idx => inv (depths m c) (k 1).val) l e d := by
  have h : (dat1 (V3 m ρ) c).arrAt 7 cfg1.N = fun k : S3x384x10.Idx =>
      contracted (feats1 m c) (feats2 m c) (feats3 m c) (flat1 (cells (depths m c) tab1t tab1)) (flat2 (cells (depths m c) tab2t tab2))
          (flat3 (cells (depths m c) tab3t tab3)) (fun k : S1x10.Idx => inv (depths m c) (k 1).val) (k 0) (k 1) (k 2) := by
    refine (dat1 (V3 m ρ) c).arrAt_eq_of_after_last 7 t1_0 (by decide +kernel) _ fun j => ?_
    blk_simp
    obtain ⟨h0, h1, h2, h3, h4, h5, h6⟩ := whole1 (c := c) (V3 m ρ)
    rw [after1_7]
    unfold outsAt1
    rw [h0, h1, h2, h3, h4, h5, h6, second_w1, second_w2, second_w3, second_f1, second_f2, second_f3, second_ic, cells1, cells2, cells3, counts]
    rw [eq_ix3 j]
    exact out_eq _ _ _ _ _ _ _ c t1_0 _ _ _
  exact (congrFun ((W4_arr m ρ c 7).trans h) (ix3 l e d))

end Cert.Pool
-- ==== Proof.Weights.lean ====
/- The interpolation weights of a layer of `n` cells scaled up by `s` to 224 samples, as natural numbers: sample `x` and
   cell `w` overlap by `overlap s w x` out of `2·s`, and the overlaps of a sample sum to `reach n s x`. Every weight is a
   multiple of 1/32, so a 32-bit word holds it exactly. -/
module

public import Idealize.ShloMosaic.PureOps.Ideal.Laws

@[expose] public section

set_option maxRecDepth 16384

namespace Cert.Pool

open Idealize.ShloMosaic

/-- `2·s` less the distance `|(2x+1) − (2sw+s)|`, zero where that is negative. -/
def overlap (s w x : ℕ) : ℕ := 2 * s - ((2 * x + 1) - (s + 2 * s * w)) - ((s + 2 * s * w) - (2 * x + 1))

/-- The overlaps of sample `x` with all `n` cells: `2·s`, less at both ends. -/
def reach (n s x : ℕ) : ℕ :=
  if 2 * x + 1 < s then s + 2 * x + 1 else if s * (2 * n - 1) < 2 * x + 1 then s * (2 * n + 1) - (2 * x + 1) else 2 * s

/-- The weight of cell `w` for sample `x`. -/
noncomputable def weight (n s w x : ℕ) : ℝ := (overlap s w x : ℝ) / (reach n s x : ℝ)

/-- The 32-bit float word of `k/32`, for `k` up to 32. -/
def word (k : ℕ) : BitVec 32 :=
  if k = 0 then 0#32 else BitVec.ofNat 32 ((122 + k.log2) * 2 ^ 23 + (k - 2 ^ k.log2) * 2 ^ (23 - k.log2))

/-- What a layer's numbers must satisfy for its weights to be the words' values. -/
def Fits (n s : ℕ) : Prop := ∀ x : Fin 224, 0 < reach n s x ∧ (∑ w : Fin n, overlap s w x) = reach n s x
  ∧ ∀ w : Fin n, reach n s x ∣ 32 * overlap s w x ∧ overlap s w x ≤ reach n s x

/-- It is decided by going through the samples. -/
instance (n s : ℕ) : Decidable (Fits n s) := by unfold Fits; infer_instance

/-- A layer of 56 cells satisfies it. -/
theorem fits1 : Fits 56 4 := by decide +kernel
/-- So does one of 28 cells. -/
theorem fits2 : Fits 28 8 := by decide +kernel
/-- And one of 14 cells. -/
theorem fits3 : Fits 14 16 := by decide +kernel

/-- The words' values. -/
theorem ofBits_word (k : ℕ) (hk : k ≤ 32) : Ideal.ofBits .f32 (word k) = (((k : ℝ) / 32 : ℝ) : EReal) := by
  interval_cases k <;> (simp [Ideal.ofBits, Ideal.ieee, word, Nat.log2_def, -EReal.coe_mul] ; try norm_num)

/-- The word of a weight has the weight for its value. -/
theorem ofBits_weight (n s : ℕ) (h : Fits n s) (w : Fin n) (x : Fin 224) :
    Ideal.ofBits .f32 (word (32 * overlap s w x / reach n s x)) = ((weight n s w x : ℝ) : EReal) := by
  obtain ⟨h0, -, h2⟩ := h x
  obtain ⟨⟨k, hk⟩, hle⟩ := h2 w
  have hr : (reach n s x : ℝ) ≠ 0 := by exact_mod_cast h0.ne'
  rw [hk, Nat.mul_div_cancel_left _ h0, ofBits_word k (by
    by_contra hc
    have : reach n s x * 33 ≤ reach n s x * k := Nat.mul_le_mul_left _ (by omega)
    omega)]
  congr 1
  unfold weight
  have hk' : (32 : ℝ) * overlap s w x = reach n s x * k := by exact_mod_cast hk
  field_simp
  linarith

end Cert.Pool
-- ==== Proof.Table0.lean ====
/- The kernel's table of 224 samples by 56 cells: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit0_word : ∀ x : Fin 224, ∀ w : Fin 56, lit0t (x.val * 56 + w.val) = word (32 * overlap 4 w x / reach 56 4 x) := by
  decide +kernel

end Cert.Pool
-- ==== Proof.Table1.lean ====
/- The kernel's table of 56 cells by 224 samples: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit1_word : ∀ x : Fin 224, ∀ w : Fin 56, lit1t (w.val * 224 + x.val) = word (32 * overlap 4 w x / reach 56 4 x) := by
  decide +kernel

end Cert.Pool
-- ==== Proof.Table2.lean ====
/- The kernel's table of 224 samples by 28 cells: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit2_word : ∀ x : Fin 224, ∀ w : Fin 28, lit2t (x.val * 28 + w.val) = word (32 * overlap 8 w x / reach 28 8 x) := by
  decide +kernel

end Cert.Pool
-- ==== Proof.Table3.lean ====
/- The kernel's table of 28 cells by 224 samples: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit3_word : ∀ x : Fin 224, ∀ w : Fin 28, lit3t (w.val * 224 + x.val) = word (32 * overlap 8 w x / reach 28 8 x) := by
  decide +kernel

end Cert.Pool
-- ==== Proof.Table4.lean ====
/- The kernel's table of 224 samples by 14 cells: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit4_word : ∀ x : Fin 224, ∀ w : Fin 14, lit4t (x.val * 14 + w.val) = word (32 * overlap 16 w x / reach 14 16 x) := by
  decide +kernel

end Cert.Pool
-- ==== Proof.Table5.lean ====
/- The kernel's table of 14 cells by 224 samples: every word is the word of its weight. -/
module

public import proofs.«01_k».proof.KernelIdeal
public import proofs.«01_k».proof.Proof.Weights

@[expose] public section

set_option maxRecDepth 65536

namespace Cert.Pool

open Cert.KernelIdeal

/-- Sample `x`, cell `w`. -/
theorem lit5_word : ∀ x : Fin 224, ∀ w : Fin 14, lit5t (w.val * 224 + x.val) = word (32 * overlap 16 w x / reach 14 16 x) := by
  decide +kernel

end Cert.Pool
-- ==== Proof.Tables.lean ====
/- The kernel's six tables are the weights of the three layers. -/
module

public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.KernelValue

@[expose] public section

set_option maxRecDepth 16384

noncomputable section

namespace Cert.Pool

open Idealize.ShloMosaic Cert.KernelIdeal

/-- The first layer's table holds the weights. -/
theorem tab1_at (x : Fin 224) (w : Fin 56) : tab1 (ix2 x w) = ((weight 56 4 w x : ℝ) : EReal) := by
  rw [← ofBits_weight 56 4 fits1 w x, ← lit0_word x w]
  exact congrArg (fun k => Ideal.ofBits .f32 (lit0t k)) (Shape.rowMajor_val_two (ix2 x w))

/-- So does its transpose. -/
theorem tab1t_at (w : Fin 56) (x : Fin 224) : tab1t (ix2 w x) = ((weight 56 4 w x : ℝ) : EReal) := by
  rw [← ofBits_weight 56 4 fits1 w x, ← lit1_word x w]
  exact congrArg (fun k => Ideal.ofBits .f32 (lit1t k)) (Shape.rowMajor_val_two (ix2 w x))

/-- The second layer's table holds the weights. -/
theorem tab2_at (x : Fin 224) (w : Fin 28) : tab2 (ix2 x w) = ((weight 28 8 w x : ℝ) : EReal) := by
  rw [← ofBits_weight 28 8 fits2 w x, ← lit2_word x w]
  exact congrArg (fun k => Ideal.ofBits .f32 (lit2t k)) (Shape.rowMajor_val_two (ix2 x w))

/-- So does its transpose. -/
theorem tab2t_at (w : Fin 28) (x : Fin 224) : tab2t (ix2 w x) = ((weight 28 8 w x : ℝ) : EReal) := by
  rw [← ofBits_weight 28 8 fits2 w x, ← lit3_word x w]
  exact congrArg (fun k => Ideal.ofBits .f32 (lit3t k)) (Shape.rowMajor_val_two (ix2 w x))

/-- The third layer's table holds the weights. -/
theorem tab3_at (x : Fin 224) (w : Fin 14) : tab3 (ix2 x w) = ((weight 14 16 w x : ℝ) : EReal) := by
  rw [← ofBits_weight 14 16 fits3 w x, ← lit4_word x w]
  exact congrArg (fun k => Ideal.ofBits .f32 (lit4t k)) (Shape.rowMajor_val_two (ix2 x w))

/-- So does its transpose. -/
theorem tab3t_at (w : Fin 14) (x : Fin 224) : tab3t (ix2 w x) = ((weight 14 16 w x : ℝ) : EReal) := by
  rw [← ofBits_weight 14 16 fits3 w x, ← lit5_word x w]
  exact congrArg (fun k => Ideal.ofBits .f32 (lit5t k)) (Shape.rowMajor_val_two (ix2 w x))

end Cert.Pool
-- ==== Proof.Scatter.lean ====
/- The reference's three kinds of scatter, read at an element: ones added into bins, rows added into bins, and a block set
   into one plane of an array. -/
module

public import Idealize.ShloMosaic.Lib.Routing.OpsPair
public import Idealize.ShloMosaic.Lib.Routing.OpsSet
public import Idealize.ShloMosaic.Lib.Pointwise

@[expose] public section

namespace Cert.Pool

open Idealize.ShloMosaic Idealize.ShloMosaic.Routing

/-- Scalar update `j` lands in bin `e` exactly when its index word is `e`. -/
theorem lands_bin {K N : ℕ} (d : ScatterDims (shape1 K) (shape2 N 1) (shape1 N)) (huw : d.updateWindowDims = [])
    (hiw : d.insertedWindowDims = [0]) (hsd : d.scatterDimsToOperandDims = [0]) (hiv : d.indexVectorDim = 1)
    (idx : IVec (shape2 N 1) 32) (j : (shape1 N).Idx) (e : (shape1 K).Idx) :
    d.resultIdx? j idx = some e ↔ (idx (ix2 (j 0) 0)).toInt = ((e 0).val : ℤ) := by
  obtain ⟨uw, iw, sd, iv, wf⟩ := d
  dsimp only at huw hiw hsd hiv
  subst huw hiw hsd hiv
  rw [resultIdx?_eq_some]
  have hs : ScatterDims.siIdx ⟨[], [0], [0], 1, wf⟩ j (⟨0, Nat.one_pos⟩ : Fin 1) = ix2 (j 0) 0 := by
    funext b
    match b with
    | ⟨0, _⟩ => rfl
    | ⟨1, _⟩ => rfl
  have h0 : ScatterDims.start ⟨[], [0], [0], 1, wf⟩ j idx 0 = (idx (ix2 (j 0) 0)).toInt := congrArg (fun t => (idx t).toInt) hs
  have w0 : ScatterDims.window ⟨[], [0], [0], 1, wf⟩ j 0 = 0 := rfl
  constructor
  · intro h
    have a0 := h 0
    rw [h0, w0] at a0
    omega
  · intro h a
    match a with
    | ⟨0, _⟩ => exact (congrArg₂ (fun (x : ℤ) (y : ℕ) => x + (y : ℤ)) h0 w0).trans (by simpa using h)

/-- Entry `j` of a table of rows lands at entry `e` exactly when the row's index word is `e`'s row and the columns agree. -/
theorem lands_row {K N C : ℕ} (d : ScatterDims (shape2 K C) (shape2 N 1) (shape2 N C)) (huw : d.updateWindowDims = [1])
    (hiw : d.insertedWindowDims = [0]) (hsd : d.scatterDimsToOperandDims = [0]) (hiv : d.indexVectorDim = 1)
    (idx : IVec (shape2 N 1) 32) (j : (shape2 N C).Idx) (e : (shape2 K C).Idx) :
    d.resultIdx? j idx = some e ↔ (idx (ix2 (j 0) 0)).toInt = ((e 0).val : ℤ) ∧ (j 1).val = (e 1).val := by
  obtain ⟨uw, iw, sd, iv, wf⟩ := d
  dsimp only at huw hiw hsd hiv
  subst huw hiw hsd hiv
  rw [resultIdx?_eq_some]
  have hs : ScatterDims.siIdx ⟨[1], [0], [0], 1, wf⟩ j (⟨0, Nat.one_pos⟩ : Fin 1) = ix2 (j 0) 0 := by
    funext b
    match b with
    | ⟨0, _⟩ => rfl
    | ⟨1, _⟩ => rfl
  have h0 : ScatterDims.start ⟨[1], [0], [0], 1, wf⟩ j idx 0 = (idx (ix2 (j 0) 0)).toInt := congrArg (fun t => (idx t).toInt) hs
  have h1 : ScatterDims.start ⟨[1], [0], [0], 1, wf⟩ j idx 1 = 0 := rfl
  have w0 : ScatterDims.window ⟨[1], [0], [0], 1, wf⟩ j 0 = 0 := rfl
  have w1 : ScatterDims.window ⟨[1], [0], [0], 1, wf⟩ j 1 = (j 1).val := rfl
  constructor
  · intro h
    have a0 := h 0
    have a1 := h 1
    rw [h0, w0] at a0
    rw [h1, w1] at a1
    constructor <;> omega
  · intro h a
    match a with
    | ⟨0, _⟩ => exact (congrArg₂ (fun (x : ℤ) (y : ℕ) => x + (y : ℤ)) h0 w0).trans (by simpa using h.1)
    | ⟨1, _⟩ => exact (congrArg₂ (fun (x : ℤ) (y : ℕ) => x + (y : ℤ)) h1 w1).trans (by simpa using h.2)

/-- An update that is a block lands in the plane and at the row its two index words name. -/
theorem lands_pair {A B D C : ℕ} (d : ScatterDims (shape3 A B D) (shape1 2) (shape2 C D)) (huw : d.updateWindowDims = [0, 1])
    (hiw : d.insertedWindowDims = [0]) (hsd : d.scatterDimsToOperandDims = [0, 1]) (hiv : d.indexVectorDim = 0)
    (idx : IVec (shape1 2) 32) (l : ℕ) (hl : (idx (ix1 0)).toInt = (l : ℤ)) (hz : (idx (ix1 1)).toInt = 0)
    (j : (shape2 C D).Idx) (e : (shape3 A B D).Idx) :
    d.resultIdx? j idx = some e ↔ l = (e 0).val ∧ (j 0).val = (e 1).val ∧ (j 1).val = (e 2).val := by
  obtain ⟨uw, iw, sd, iv, wf⟩ := d
  dsimp only at huw hiw hsd hiv
  subst huw hiw hsd hiv
  rw [resultIdx?_eq_some]
  have s0 : ScatterDims.siIdx ⟨[0, 1], [0], [0, 1], 0, wf⟩ j (⟨0, Nat.two_pos⟩ : Fin 2) = ix1 0 := by
    funext b
    match b with
    | ⟨0, _⟩ => rfl
  have s1 : ScatterDims.siIdx ⟨[0, 1], [0], [0, 1], 0, wf⟩ j (⟨1, Nat.one_lt_two⟩ : Fin 2) = ix1 1 := by
    funext b
    match b with
    | ⟨0, _⟩ => rfl
  have h0 : ScatterDims.start ⟨[0, 1], [0], [0, 1], 0, wf⟩ j idx 0 = (l : ℤ) := (congrArg (fun t => (idx t).toInt) s0).trans hl
  have h1 : ScatterDims.start ⟨[0, 1], [0], [0, 1], 0, wf⟩ j idx 1 = 0 := (congrArg (fun t => (idx t).toInt) s1).trans hz
  have h2 : ScatterDims.start ⟨[0, 1], [0], [0, 1], 0, wf⟩ j idx 2 = 0 := rfl
  have w0 : ScatterDims.window ⟨[0, 1], [0], [0, 1], 0, wf⟩ j 0 = 0 := rfl
  have w1 : ScatterDims.window ⟨[0, 1], [0], [0, 1], 0, wf⟩ j 1 = (j 0).val := rfl
  have w2 : ScatterDims.window ⟨[0, 1], [0], [0, 1], 0, wf⟩ j 2 = (j 1).val := rfl
  constructor
  · intro h
    have a0 := h 0
    have a1 := h 1
    have a2 := h 2
    rw [h0, w0] at a0
    rw [h1, w1] at a1
    rw [h2, w2] at a2
    refine ⟨?_, ?_, ?_⟩ <;> omega
  · intro h a
    match a with
    | ⟨0, _⟩ => exact (congrArg₂ (fun (x : ℤ) (y : ℕ) => x + (y : ℤ)) h0 w0).trans (by simpa using h.1)
    | ⟨1, _⟩ => exact (congrArg₂ (fun (x : ℤ) (y : ℕ) => x + (y : ℤ)) h1 w1).trans (by simpa using h.2.1)
    | ⟨2, _⟩ => exact (congrArg₂ (fun (x : ℤ) (y : ℕ) => x + (y : ℤ)) h2 w2).trans (by simpa using h.2.2)

/-- The same with one index word, the plane's. -/
theorem lands_plane {A B D C : ℕ} (d : ScatterDims (shape3 A B D) (shape1 1) (shape2 C D)) (huw : d.updateWindowDims = [0, 1])
    (hiw : d.insertedWindowDims = [0]) (hsd : d.scatterDimsToOperandDims = [0]) (hiv : d.indexVectorDim = 0)
    (idx : IVec (shape1 1) 32) (l : ℕ) (hl : (idx (ix1 0)).toInt = (l : ℤ)) (j : (shape2 C D).Idx) (e : (shape3 A B D).Idx) :
    d.resultIdx? j idx = some e ↔ l = (e 0).val ∧ (j 0).val = (e 1).val ∧ (j 1).val = (e 2).val := by
  obtain ⟨uw, iw, sd, iv, wf⟩ := d
  dsimp only at huw hiw hsd hiv
  subst huw hiw hsd hiv
  rw [resultIdx?_eq_some]
  have s0 : ScatterDims.siIdx ⟨[0, 1], [0], [0], 0, wf⟩ j (⟨0, Nat.one_pos⟩ : Fin 1) = ix1 0 := by
    funext b
    match b with
    | ⟨0, _⟩ => rfl
  have h0 : ScatterDims.start ⟨[0, 1], [0], [0], 0, wf⟩ j idx 0 = (l : ℤ) := (congrArg (fun t => (idx t).toInt) s0).trans hl
  have h1 : ScatterDims.start ⟨[0, 1], [0], [0], 0, wf⟩ j idx 1 = 0 := rfl
  have h2 : ScatterDims.start ⟨[0, 1], [0], [0], 0, wf⟩ j idx 2 = 0 := rfl
  have w0 : ScatterDims.window ⟨[0, 1], [0], [0], 0, wf⟩ j 0 = 0 := rfl
  have w1 : ScatterDims.window ⟨[0, 1], [0], [0], 0, wf⟩ j 1 = (j 0).val := rfl
  have w2 : ScatterDims.window ⟨[0, 1], [0], [0], 0, wf⟩ j 2 = (j 1).val := rfl
  constructor
  · intro h
    have a0 := h 0
    have a1 := h 1
    have a2 := h 2
    rw [h0, w0] at a0
    rw [h1, w1] at a1
    rw [h2, w2] at a2
    refine ⟨?_, ?_, ?_⟩ <;> omega
  · intro h a
    match a with
    | ⟨0, _⟩ => exact (congrArg₂ (fun (x : ℤ) (y : ℕ) => x + (y : ℤ)) h0 w0).trans (by simpa using h.1)
    | ⟨1, _⟩ => exact (congrArg₂ (fun (x : ℤ) (y : ℕ) => x + (y : ℤ)) h1 w1).trans (by simpa using h.2.1)
    | ⟨2, _⟩ => exact (congrArg₂ (fun (x : ℤ) (y : ℕ) => x + (y : ℤ)) h2 w2).trans (by simpa using h.2.2)

/-- A block of `C` rows set into plane `l`: there it is the block, elsewhere the array is unchanged. -/
theorem set_block {A B D C : ℕ} {si : Shape} {α : Type} (d : ScatterDims (shape3 A B D) si (shape2 C D)) (x0 : (shape3 A B D).Idx → α)
    (idx : IVec si 32) (upd : (shape2 C D).Idx → α) (l : ℕ)
    (hl : ∀ j e, d.resultIdx? j idx = some e ↔ l = (e 0).val ∧ (j 0).val = (e 1).val ∧ (j 1).val = (e 2).val)
    (a : Fin A) (b : Fin B) (e : Fin D) :
    Host.scatter d (fun _ b => b) x0 idx upd (ix3 a b e)
      = if h : a.val = l ∧ b.val < C then upd (ix2 ⟨b.val, h.2⟩ e) else x0 (ix3 a b e) := by
  by_cases h : a.val = l ∧ b.val < C
  · rw [dif_pos h]
    refine scatter_set_hit d x0 idx upd _ _ (fun j hj => ?_) (ix2 ⟨b.val, h.2⟩ e) ((hl _ _).2 ⟨h.1.symm, rfl, rfl⟩)
    obtain ⟨-, h1, h2⟩ := (hl _ _).1 hj
    refine congrArg upd (funext fun t => ?_)
    match t with
    | ⟨0, _⟩ => exact Fin.ext h1
    | ⟨1, _⟩ => exact Fin.ext h2
  · rw [dif_neg h]
    refine scatter_set_miss d x0 idx upd _ (fun j hj => h ?_)
    obtain ⟨h0, h1, -⟩ := (hl _ _).1 hj
    exact ⟨h0.symm, lt_of_eq_of_lt h1.symm (j 0).isLt⟩

/-- A fold that adds the word 1 where `p` holds counts where it holds. -/
theorem foldl_ones {ι : Type} (p : ι → Prop) [DecidablePred p] (l : List ι) (k : ℕ) :
    l.foldl (fun a n => if p n then IntOp.addi a 1#32 else a) (BitVec.ofNat 32 k) = BitVec.ofNat 32 (k + l.countP p) := by
  induction l generalizing k with
  | nil => simp
  | cons n l ih =>
    rw [List.foldl_cons, List.countP_cons]
    by_cases h : p n
    · have e : IntOp.addi (BitVec.ofNat 32 k) 1#32 = BitVec.ofNat 32 (k + 1) := by
        show BitVec.ofNat 32 k + BitVec.ofNat 32 1 = _
        rw [BitVec.ofNat_add]
      rw [if_pos h, e, ih, if_pos (by simpa using h)]
      congr 1
      omega
    · rw [if_neg h, ih, if_neg (by simpa using h)]
      rfl

/-- Counting over the list of all positions is counting over the set of all. -/
theorem countP_finRange {n : ℕ} (p : Fin n → Prop) [DecidablePred p] :
    (List.finRange n).countP p = (Finset.univ.filter p).card := by
  rw [List.countP_eq_length_filter, ← List.toFinset_card_of_nodup ((List.nodup_finRange n).filter _)]
  congr 1
  ext i
  simp

/-- Ones added into zeroed bins: bin `e` holds the word of the number of updates whose index is `e`. -/
theorem count_bin {K N : ℕ} (d : ScatterDims (shape1 K) (shape2 N 1) (shape1 N)) (huw : d.updateWindowDims = [])
    (hiw : d.insertedWindowDims = [0]) (hsd : d.scatterDimsToOperandDims = [0]) (hiv : d.indexVectorDim = 1)
    (x0 : IVec (shape1 K) 32) (h0 : ∀ i, x0 i = 0#32) (idx : IVec (shape2 N 1) 32) (upd : IVec (shape1 N) 32) (h1 : ∀ i, upd i = 1#32)
    (g : Fin N → ℕ) (hg : ∀ i, (idx (ix2 i 0)).toInt = (g i : ℤ)) (e : (shape1 K).Idx) :
    Host.scatter d IntOp.addi x0 idx upd e = BitVec.ofNat 32 (Finset.univ.filter fun i : Fin N => g i = (e 0).val).card := by
  rw [scatter_at]
  have hstep : (fun (a : BitVec 32) (n : Fin (shape1 N).numel) => if d.resultIdx? ((shape1 N).rowMajor.symm n) idx = some e
      then IntOp.addi a (upd ((shape1 N).rowMajor.symm n)) else a)
      = fun a n => if g (((shape1 N).rowMajor.symm n) 0) = (e 0).val then IntOp.addi a 1#32 else a := by
    funext a n
    rw [h1]
    refine if_congr ?_ rfl rfl
    rw [lands_bin d huw hiw hsd hiv]
    exact (iff_of_eq (congrArg (· = ((e 0).val : ℤ)) (hg _))).trans Nat.cast_inj
  rw [hstep, h0, foldl_ones (fun n : Fin (shape1 N).numel => g (((shape1 N).rowMajor.symm n) 0) = (e 0).val) _ 0, zero_add]
  congr 1
  rw [countP_finRange]
  refine Finset.card_bij (fun n _ => ((shape1 N).rowMajor.symm n) 0) (fun n hn => ?_) (fun n _ n' _ h => ?_) (fun i hi => ?_)
  · exact Finset.mem_filter.2 ⟨Finset.mem_univ _, (Finset.mem_filter.1 hn).2⟩
  · refine (shape1 N).rowMajor.symm.injective (funext fun t => ?_)
    match t with
    | ⟨0, _⟩ => exact h
  · refine ⟨(shape1 N).rowMajor (ix1 i), ?_, ?_⟩
    · rw [Finset.mem_filter, Equiv.symm_apply_apply]
      exact ⟨Finset.mem_univ _, (Finset.mem_filter.1 hi).2⟩
    · show (shape1 N).rowMajor.symm ((shape1 N).rowMajor (ix1 i)) 0 = i
      rw [Equiv.symm_apply_apply]
      rfl

/-- Rows added into bins over the extended reals: entry `(e, c)` gains the entries in column `c` of the rows whose index is `e`. -/
theorem sum_bin {K N C : ℕ} (d : ScatterDims (shape2 K C) (shape2 N 1) (shape2 N C)) (huw : d.updateWindowDims = [1])
    (hiw : d.insertedWindowDims = [0]) (hsd : d.scatterDimsToOperandDims = [0]) (hiv : d.indexVectorDim = 1)
    (x0 : FVec Ideal (shape2 K C) .f32) (idx : IVec (shape2 N 1) 32) (upd : FVec Ideal (shape2 N C) .f32)
    (g : Fin N → ℕ) (hg : ∀ i, (idx (ix2 i 0)).toInt = (g i : ℤ)) (e : Fin K) (c : Fin C) :
    Host.scatterAdd (F := Ideal) d x0 idx upd (ix2 e c)
      = x0 (ix2 e c) + ∑ i : Fin N, if g i = e.val then upd (ix2 i c) else 0 := by
  show x0 (ix2 e c) + ∑ j ∈ Finset.univ.filter (fun j => d.resultIdx? j idx = some (ix2 e c)), upd j = _
  congr 1
  rw [← Finset.sum_filter]
  refine (Finset.sum_bij (fun (i : Fin N) _ => (ix2 i c : (shape2 N C).Idx)) (fun i hi => ?_) (fun i _ j _ h => congrFun h 0) (fun j hj => ?_) (fun i _ => rfl)).symm
  · rw [Finset.mem_filter, lands_row d huw hiw hsd hiv]
    refine ⟨Finset.mem_univ _, ?_, rfl⟩
    exact (hg i).trans (congrArg _ (Finset.mem_filter.1 hi).2)
  · obtain ⟨h0, h1⟩ := (lands_row d huw hiw hsd hiv _ _ _).1 (Finset.mem_filter.1 hj).2
    refine ⟨j 0, ?_, ?_⟩
    · refine Finset.mem_filter.2 ?_
      exact ⟨Finset.mem_univ _, Nat.cast_inj.1 ((hg (j 0)).symm.trans h0)⟩
    · funext t
      match t with
      | ⟨0, _⟩ => rfl
      | ⟨1, _⟩ => exact Fin.ext h1.symm

end Cert.Pool
-- ==== Proof.Sums.lean ====
/- Sums of extended reals against nonnegative real coefficients. On the extended reals a product distributes
   over a sum only with care for the infinities; for coefficients that are nonnegative reals it always does, so a
   weighted sum may be re-associated freely, whatever the features are. -/
module

public import Mathlib.Data.EReal.Inv
public import Mathlib.Algebra.BigOperators.Group.Finset.Basic
public import Mathlib.Algebra.BigOperators.Ring.Finset
public import Mathlib.Algebra.Order.BigOperators.Group.Finset

@[expose] public section

namespace Cert.Pool

open scoped BigOperators

/-- A finite sum of reals, read as an extended real, is the sum of the extended reals. -/
theorem coe_sum {ι : Type*} (s : Finset ι) (c : ι → ℝ) : ((∑ i ∈ s, c i : ℝ) : EReal) = ∑ i ∈ s, (c i : EReal) := by
  classical
  induction s using Finset.induction_on with
  | empty => simp
  | insert a s ha ih => rw [Finset.sum_insert ha, Finset.sum_insert ha, EReal.coe_add, ih]

/-- Any extended real times a sum of nonnegative reals is the sum of the products. -/
theorem mul_sum_coe {ι : Type*} (s : Finset ι) (f : EReal) (c : ι → ℝ) (hc : ∀ i, 0 ≤ c i) :
    f * ((∑ i ∈ s, c i : ℝ) : EReal) = ∑ i ∈ s, f * (c i : EReal) := by
  classical
  induction s using Finset.induction_on with
  | empty => simp
  | insert a s ha ih =>
    rw [Finset.sum_insert ha, Finset.sum_insert ha, EReal.coe_add, ← ih]
    exact EReal.left_distrib_of_nonneg (by exact_mod_cast hc a) (by exact_mod_cast Finset.sum_nonneg fun i _ => hc i)

/-- A sum of extended reals times a nonnegative real is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- THE EXCHANGE. Resizing a feature map `f` by the weights `P` along its rows and `Q` along its columns and then
    summing over the pixels with the weights `m` is the same as resizing `m` back onto the small map first, by the
    transposed weights, and then contracting it with `f`: both are the sum over everything of
    `f · (P · (m · Q))`. No finiteness is asked of `f`. -/
theorem exchange {B I J Y X : Type*} [Fintype B] [Fintype I] [Fintype J] [Fintype Y] [Fintype X]
    (P : I → Y → ℝ) (Q : J → X → ℝ) (m : B → Y → X → ℝ) (hP : ∀ i y, 0 ≤ P i y) (hQ : ∀ j x, 0 ≤ Q j x)
    (hm : ∀ b y x, 0 ≤ m b y x) (f : B → I → J → EReal) :
    (∑ b, ∑ i, ∑ j, f b i j * ((∑ y, P i y * ∑ x, m b y x * Q j x : ℝ) : EReal))
      = ∑ b, ∑ y, ∑ x, (∑ j, (∑ i, (P i y : EReal) * f b i j) * (Q j x : EReal)) * (m b y x : EReal) := by
  have hl : ∀ b i j, f b i j * ((∑ y, P i y * ∑ x, m b y x * Q j x : ℝ) : EReal)
      = ∑ y, ∑ x, f b i j * ((P i y * (m b y x * Q j x) : ℝ) : EReal) := by
    intro b i j
    rw [mul_sum_coe _ _ _ fun y => mul_nonneg (hP i y) (Finset.sum_nonneg fun x _ => mul_nonneg (hm b y x) (hQ j x))]
    refine Finset.sum_congr rfl fun y _ => ?_
    rw [Finset.mul_sum, mul_sum_coe _ _ _ fun x => mul_nonneg (hP i y) (mul_nonneg (hm b y x) (hQ j x))]
  have hr : ∀ b y x, (∑ j, (∑ i, (P i y : EReal) * f b i j) * (Q j x : EReal)) * (m b y x : EReal)
      = ∑ j, ∑ i, f b i j * ((P i y * (m b y x * Q j x) : ℝ) : EReal) := by
    intro b y x
    rw [sum_mul_coe _ _ _ (hm b y x)]
    refine Finset.sum_congr rfl fun j _ => ?_
    rw [sum_mul_coe _ _ _ (hQ j x), sum_mul_coe _ _ _ (hm b y x)]
    refine Finset.sum_congr rfl fun i _ => ?_
    rw [EReal.coe_mul, EReal.coe_mul, mul_comm (P i y : EReal), mul_assoc, mul_assoc, mul_comm (Q j x : EReal)]
  simp only [hl, hr]
  refine Finset.sum_congr rfl fun b _ => ?_
  calc _ = ∑ i, ∑ y, ∑ j, ∑ x, f b i j * ((P i y * (m b y x * Q j x) : ℝ) : EReal) :=
        Finset.sum_congr rfl fun i _ => Finset.sum_comm
    _ = ∑ y, ∑ i, ∑ j, ∑ x, f b i j * ((P i y * (m b y x * Q j x) : ℝ) : EReal) := Finset.sum_comm
    _ = _ := Finset.sum_congr rfl fun y _ => by
        calc _ = ∑ i, ∑ x, ∑ j, f b i j * ((P i y * (m b y x * Q j x) : ℝ) : EReal) :=
              Finset.sum_congr rfl fun i _ => Finset.sum_comm
          _ = ∑ x, ∑ i, ∑ j, f b i j * ((P i y * (m b y x * Q j x) : ℝ) : EReal) := Finset.sum_comm
          _ = _ := Finset.sum_congr rfl fun x _ => Finset.sum_comm

end Cert.Pool
-- ==== Proof.Resize.lean ====
/- One weight of a linear resize, as the reference computes it: the triangle `max 0 (1 − |sample − cell|)` of the sample's
   position, divided by the sum of its row. Over the extended reals it is the ratio of two natural numbers. -/
module

public import proofs.«01_k».proof.Proof.Weights
public import proofs.«01_k».proof.Proof.Sums

@[expose] public section

noncomputable section

namespace Cert.Pool

open Idealize.ShloMosaic

/-- A difference of naturals cut at zero on both sides is the real triangle. -/
theorem coe_cut (m a b : ℕ) : ((m - (a - b) - (b - a) : ℕ) : ℝ) = max 0 ((m : ℝ) - |(a : ℝ) - b|) := by
  rcases le_total a b with h | h
  · have h' : (a : ℝ) ≤ b := by exact_mod_cast h
    rw [abs_of_nonpos (by linarith), Nat.sub_eq_zero_of_le h, Nat.sub_zero]
    rcases le_total (b - a) m with h2 | h2
    · rw [Nat.cast_sub h2, Nat.cast_sub h, max_eq_right]
      · ring
      · have : ((b - a : ℕ) : ℝ) ≤ m := by exact_mod_cast h2
        rw [Nat.cast_sub h] at this
        linarith
    · rw [Nat.sub_eq_zero_of_le h2, max_eq_left]
      · simp
      · have : (m : ℝ) ≤ ((b - a : ℕ) : ℝ) := by exact_mod_cast h2
        rw [Nat.cast_sub h] at this
        linarith
  · have h' : (b : ℝ) ≤ a := by exact_mod_cast h
    rw [abs_of_nonneg (by linarith), Nat.sub_eq_zero_of_le h, Nat.sub_zero]
    rcases le_total (a - b) m with h2 | h2
    · rw [Nat.cast_sub h2, Nat.cast_sub h, max_eq_right]
      have : ((a - b : ℕ) : ℝ) ≤ m := by exact_mod_cast h2
      rw [Nat.cast_sub h] at this
      linarith
    · rw [Nat.sub_eq_zero_of_le h2, max_eq_left]
      · simp
      · have : (m : ℝ) ≤ ((a - b : ℕ) : ℝ) := by exact_mod_cast h2
        rw [Nat.cast_sub h] at this
        linarith

/-- Where sample `x` lies among the cells. -/
def place (s x : ℕ) : ℝ := (2 * x + 1 - s) / (2 * s)

/-- The position as computed: `(x + 1/2)·(1/s) − 0 − 1/2`. -/
theorem place_eq (s x : ℕ) (hs : 0 < s) :
    (((x : ℝ) : EReal) + ((1 / 2 : ℝ) : EReal)) * ((1 / s : ℝ) : EReal) - 0 - ((1 / 2 : ℝ) : EReal) = ((place s x : ℝ) : EReal) := by
  have hs' : (s : ℝ) ≠ 0 := by exact_mod_cast hs.ne'
  rw [sub_zero, ← EReal.coe_add, ← EReal.coe_mul, ← EReal.coe_sub]
  congr 1
  unfold place
  field_simp

/-- The larger of a real and its negation. -/
theorem coe_abs (r : ℝ) : max (r : EReal) (-(r : EReal)) = ((|r| : ℝ) : EReal) := by
  rw [← EReal.coe_neg]; exact (EReal.coe_strictMono.monotone.map_max).symm

/-- The triangle as computed is the overlap over `2·s`. -/
theorem triangle_eq (s w x : ℕ) (hs : 0 < s) (p h : EReal) (hp : p = ((place s x : ℝ) : EReal)) (hh : h = ((1 / s : ℝ) : EReal)) :
    max 0 (1 - max (Ideal.div (max (p - ((w : ℝ) : EReal)) (-(p - ((w : ℝ) : EReal)))) (max h 1))
      (-Ideal.div (max (p - ((w : ℝ) : EReal)) (-(p - ((w : ℝ) : EReal)))) (max h 1)))
    = (((overlap s w x : ℝ) / (2 * s) : ℝ) : EReal) := by
  have hs' : (1 : ℝ) ≤ s := by exact_mod_cast hs
  have h1 : max h 1 = ((1 : ℝ) : EReal) := by
    rw [hh, EReal.coe_one, max_eq_right]
    exact_mod_cast (div_le_one (by linarith)).2 hs'
  rw [h1, hp, ← EReal.coe_sub, coe_abs, Ideal.div_coe one_ne_zero, ← EReal.coe_mul, coe_abs, ← EReal.coe_one, ← EReal.coe_sub,
    ← EReal.coe_zero, ← EReal.coe_strictMono.monotone.map_max]
  congr 1
  have hd : |place s x - w| = |((2 * x + 1 : ℕ) : ℝ) - ((s + 2 * s * w : ℕ) : ℝ)| / (2 * s) := by
    rw [← abs_of_nonneg (show (0 : ℝ) ≤ 2 * s by linarith), ← abs_div]
    congr 1
    unfold place
    push_cast
    field_simp
    ring
  unfold overlap
  rw [coe_cut, one_div_one, mul_one, abs_abs, hd, ← max_div_div_right (by linarith : (0 : ℝ) ≤ 2 * s), zero_div, sub_div]
  push_cast
  rw [div_self (by linarith)]

/-- The row sum of the triangles is the reach over `2·s`. -/
theorem rowSum_eq (n s : ℕ) (h : Fits n s) (x : Fin 224) :
    (0 : EReal) + ∑ w : Fin n, (((overlap s w x : ℝ) / (2 * s) : ℝ) : EReal) = (((reach n s x : ℝ) / (2 * s) : ℝ) : EReal) := by
  rw [zero_add, ← coe_sum, ← Finset.sum_div, ← (h x).2.1]
  push_cast
  rfl

/-- A one-bit word of a true comparison selects the first value. -/
theorem select_true {p : Prop} [Decidable p] (hp : p) {α : Type} (a b : α) : Scalar.select (BitVec.ofBool (decide p)) a b = a := by
  rw [decide_eq_true hp]; rfl

/-- The normalised weight: neither guard of the division bites. -/
theorem normal_eq (n s : ℕ) (hs : 0 < s) (hs16 : s ≤ 16) (h : Fits n s) (w : Fin n) (x : Fin 224) (o t tiny : EReal)
    (ho : o = (((overlap s w x : ℝ) / (2 * s) : ℝ) : EReal)) (ht : t = (((reach n s x : ℝ) / (2 * s) : ℝ) : EReal))
    (hy : tiny ≤ ((1 / 100 : ℝ) : EReal)) :
    Scalar.select (Ideal.cmp .ogt (max t (-t)) tiny) (Ideal.div o (Scalar.select (Ideal.cmp .une t 0) t 1)) 0
      = ((weight n s w x : ℝ) : EReal) := by
  have hs' : (0 : ℝ) < s := by exact_mod_cast hs
  have hs2 : (s : ℝ) ≤ 16 := by exact_mod_cast hs16
  have hr : (1 : ℝ) ≤ reach n s x := by exact_mod_cast (h x).1
  have hq : (1 / 32 : ℝ) ≤ (reach n s x : ℝ) / (2 * s) := by
    rw [div_le_div_iff₀ (by norm_num) (by linarith)]; nlinarith
  have hne : (reach n s x : ℝ) / (2 * s) ≠ 0 := by linarith
  have h0 : t ≠ 0 := by rw [ht]; exact_mod_cast hne
  have h1 : tiny < max t (-t) := by
    refine lt_of_le_of_lt hy (lt_of_lt_of_le ?_ (le_max_left _ _))
    rw [ht]
    exact_mod_cast lt_of_lt_of_le (by norm_num : (1 / 100 : ℝ) < 1 / 32) hq
  rw [show Ideal.cmp .une t 0 = BitVec.ofBool (decide (t ≠ 0)) from rfl, select_true h0,
    show Ideal.cmp .ogt (max t (-t)) tiny = BitVec.ofBool (decide (tiny < max t (-t))) from rfl, select_true h1, ho, ht,
    Ideal.div_coe hne, ← EReal.coe_mul]
  congr 1
  unfold weight
  field_simp

/-- Every sample lies within the range of the cells, so the range check keeps every weight. -/
theorem inside_eq (n s : ℕ) (hs : 0 < s) (hn : n * s = 224) (x : Fin 224) (p lo hi a : EReal) (hp : p = ((place s x : ℝ) : EReal))
    (hlo : lo = ((-(1 / 2) : ℝ) : EReal)) (hhi : hi = ((n - 1 / 2 : ℝ) : EReal)) :
    Scalar.select (Ideal.cmp .oge p lo &&& Ideal.cmp .ole p hi) a 0 = a := by
  have hs' : (0 : ℝ) < s := by exact_mod_cast hs
  have hx : (x.val : ℝ) + 1 ≤ 224 := by exact_mod_cast x.isLt
  have hx0 : (0 : ℝ) ≤ x.val := Nat.cast_nonneg _
  have hn' : (n : ℝ) * s = 224 := by exact_mod_cast hn
  have h1 : lo ≤ p := by
    rw [hlo, hp]
    refine EReal.coe_le_coe_iff.2 ?_
    unfold place
    rw [le_div_iff₀ (by linarith)]; linarith
  have h2 : p ≤ hi := by
    rw [hhi, hp]
    refine EReal.coe_le_coe_iff.2 ?_
    unfold place
    rw [div_le_iff₀ (by linarith)]; nlinarith
  rw [show Ideal.cmp .oge p lo = BitVec.ofBool (decide (lo ≤ p)) from rfl, show Ideal.cmp .ole p hi = BitVec.ofBool (decide (p ≤ hi)) from rfl,
    decide_eq_true h1, decide_eq_true h2]
  rfl

end Cert.Pool
-- ==== Proof.RefWeights.lean ====
/- The reference's six weight matrices, `[cells, samples]`, two equal ones to a layer: entry `(w, x)` is the weight of cell
   `w` for sample `x`. -/
module

public import proofs.«01_k».proof.Proof.Gen.ReferenceIdeal.Read
public import proofs.«01_k».proof.Proof.Resize
public import Idealize.ShloMosaic.Lib.IdealHost
public import Idealize.ShloMosaic.Lib.Routing.OpsPair

@[expose] public section

set_option maxRecDepth 16384

noncomputable section

namespace Cert.Pool

open Idealize.ShloMosaic Cert.ReferenceIdeal Cert.ReferenceIdeal.Read

/-- The word of one half. -/
theorem ofBits_half : Ideal.ofBits .f32 0x3F000000#32 = ((1 / 2 : ℝ) : EReal) := by
  simp [Ideal.ofBits, Ideal.ieee, -EReal.coe_mul]; norm_num
/-- The word of minus one half. -/
theorem ofBits_minus_half : Ideal.ofBits .f32 0xBF000000#32 = ((-(1 / 2) : ℝ) : EReal) := by
  simp [Ideal.ofBits, Ideal.ieee, -EReal.coe_mul]; norm_num
/-- The word of a quarter. -/
theorem ofBits_quarter : Ideal.ofBits .f32 0x3E800000#32 = ((1 / (4 : ℕ) : ℝ) : EReal) := by
  simp [Ideal.ofBits, Ideal.ieee, -EReal.coe_mul]; norm_num
/-- The cut-off of the division is far below any row sum. -/
theorem ofBits_tiny : Ideal.ofBits .f32 0x38FA0000#32 ≤ ((1 / 100 : ℝ) : EReal) := by
  simp [Ideal.ofBits, Ideal.ieee, -EReal.coe_mul]; norm_num
/-- The far end of 56 cells. -/
theorem ofBits_last1 : Ideal.ofBits .f32 0x425E0000#32 = (((56 : ℕ) - 1 / 2 : ℝ) : EReal) := by
  simp [Ideal.ofBits, Ideal.ieee, -EReal.coe_mul, -EReal.coe_sub]; norm_num
/-- The word of an eighth. -/
theorem ofBits_eighth : Ideal.ofBits .f32 0x3E000000#32 = ((1 / (8 : ℕ) : ℝ) : EReal) := by
  simp [Ideal.ofBits, Ideal.ieee, -EReal.coe_mul]; norm_num
/-- The word of a sixteenth. -/
theorem ofBits_sixteenth : Ideal.ofBits .f32 0x3D800000#32 = ((1 / (16 : ℕ) : ℝ) : EReal) := by
  simp [Ideal.ofBits, Ideal.ieee, -EReal.coe_mul]; norm_num
/-- The far end of 28 cells. -/
theorem ofBits_last2 : Ideal.ofBits .f32 0x41DC0000#32 = (((28 : ℕ) - 1 / 2 : ℝ) : EReal) := by
  simp [Ideal.ofBits, Ideal.ieee, -EReal.coe_mul, -EReal.coe_sub]; norm_num
/-- The far end of 14 cells. -/
theorem ofBits_last3 : Ideal.ofBits .f32 0x41580000#32 = (((14 : ℕ) - 1 / 2 : ℝ) : EReal) := by
  simp [Ideal.ofBits, Ideal.ieee, -EReal.coe_mul, -EReal.coe_sub]; norm_num

/-- A float iota's entry. -/
theorem iota_at {s : Shape} (d : Fin s.rank) (i : s.Idx) (h : (i d).val < 2 ^ 31) :
    sitofp (F := Ideal) .f32 (iotaInDim s 32 d) i = (((i d).val : ℝ) : EReal) := by
  show ((((BitVec.ofNat 32 (i d).val).toInt : ℤ) : ℝ) : EReal) = _
  rw [StableHlo.Predicate.toInt_ofNat_small _ h]
  simp

/-- Layer 1: a sample's position. -/
theorem place1 (i : S224.Idx) : val_main_v55 (F := Ideal) i = ((place 4 (i 0).val : ℝ) : EReal) := by
  have h : val_main_v47 (F := Ideal) i = (((i 0).val : ℝ) : EReal) :=
    iota_at (s := S224) 0 i (lt_trans (show (i 0).val < 224 from (i 0).isLt) (by norm_num))
  rw [val_main_v55_apply, val_main_v53_apply, val_main_v51_apply, val_main_v49_apply, h, val_main_v48_apply, val_main_v50_apply,
    val_main_v52_apply, val_main_v54_apply]
  show (_ + Ideal.ofBits .f32 0x3F000000#32) * Ideal.ofBits .f32 0x3E800000#32 - Ideal.ofBits .f32 0x00000000#32
    - Ideal.ofBits .f32 0x3F000000#32 = _
  rw [ofBits_half, ofBits_quarter, Ideal.ofBits_zero_f32, place_eq 4 _ (by norm_num)]

/-- Layer 1: the triangle. -/
theorem triangle1 (i : S56x224.Idx) :
    val_main_v70 (F := Ideal) i = (((overlap 4 (i 0).val (i 1).val : ℝ) / (2 * (4 : ℕ)) : ℝ) : EReal) := by
  have h : val_main_v56 (F := Ideal) (fun a => match a with | ⟨0, _⟩ => i 0) = (((i 0).val : ℝ) : EReal) :=
    iota_at (s := S56) 0 _ (lt_trans (show (i 0).val < 56 from (i 0).isLt) (by norm_num))
  have hp := place1 (fun a => match a with | ⟨0, _⟩ => i 1)
  have key := triangle_eq 4 (i 0).val (i 1).val (by norm_num) _ _ hp ofBits_quarter
  rw [val_main_v70_apply, val_main_v69_apply, val_main_v68_apply, val_main_v67_apply, val_main_v66_apply, val_main_v65_apply,
    val_main_v64_apply, val_main_v63_apply, val_main_v62_apply, val_main_v61_apply, val_main_v60_apply, val_main_v59_apply,
    val_main_v58_apply, val_main_v57_apply]
  rw [← h, ← Ideal.ofBits_zero_f32, ← Ideal.ofBits_one_f32] at key
  exact key

/-- Layer 1: the sum of a sample's triangles. -/
theorem row1 (i : S224.Idx) :
    val_main_v71 (F := Ideal) i = (((reach 56 4 (i 0).val : ℝ) / (2 * (4 : ℕ)) : ℝ) : EReal) := by
  rw [val_main_v71_apply, ← rowSum_eq 56 4 fits1 (i 0)]
  exact congrArg₂ (· + ·) Ideal.ofBits_zero_f32 (Finset.sum_congr rfl fun k _ => triangle1 _)

/-- Layer 1: the weight. -/
theorem weight1 (i : S56x224.Idx) : val_main_v93 (F := Ideal) i = ((weight 56 4 (i 0).val (i 1).val : ℝ) : EReal) := by
  have hp := place1 (fun a => match a with | ⟨0, _⟩ => i 1)
  have hr := row1 (fun a => match a with | ⟨0, _⟩ => i 1)
  have key := normal_eq 56 4 (by norm_num) (by norm_num) fits1 (i 0) (i 1) _ _ _ (triangle1 i) hr ofBits_tiny
  have key2 := inside_eq 56 4 (by norm_num) (by norm_num) (i 1) _ _ _ ((weight 56 4 (i 0).val (i 1).val : ℝ) : EReal) hp
    ofBits_minus_half ofBits_last1
  have h84 : val_main_v84 (F := Ideal) i = ((weight 56 4 (i 0).val (i 1).val : ℝ) : EReal) := by
    rw [← key, val_main_v84_apply, val_main_v83_apply, val_main_v82_apply, val_main_v81_apply, val_main_v80_apply,
      val_main_v79_apply, val_main_v78_apply, val_main_v77_apply, val_main_v76_apply, val_main_v75_apply, val_main_v74_apply,
      val_main_v73_apply, val_main_v72_apply, ← Ideal.ofBits_zero_f32, ← Ideal.ofBits_one_f32]
    rfl
  rw [val_main_v93_apply, h84, val_main_v92_apply, val_main_v91_apply, val_main_v90_apply, val_main_v89_apply, val_main_v88_apply,
    val_main_v87_apply, val_main_v86_apply, val_main_v85_apply]
  rw [← Ideal.ofBits_zero_f32] at key2
  exact key2

/-- Layer 1's second matrix is the first. -/
theorem same1 : val_main_v141 (F := Ideal) = val_main_v93 (F := Ideal) := rfl

/-- Layer 2: a sample's position. -/
theorem place2 (i : S224.Idx) : val_main_v166 (F := Ideal) i = ((place 8 (i 0).val : ℝ) : EReal) := by
  have h : val_main_v158 (F := Ideal) i = (((i 0).val : ℝ) : EReal) :=
    iota_at (s := S224) 0 i (lt_trans (show (i 0).val < 224 from (i 0).isLt) (by norm_num))
  rw [val_main_v166_apply, val_main_v164_apply, val_main_v162_apply, val_main_v160_apply, h, val_main_v159_apply, val_main_v161_apply,
    val_main_v163_apply, val_main_v165_apply]
  show (_ + Ideal.ofBits .f32 0x3F000000#32) * Ideal.ofBits .f32 0x3E000000#32 - Ideal.ofBits .f32 0x00000000#32
    - Ideal.ofBits .f32 0x3F000000#32 = _
  rw [ofBits_half, ofBits_eighth, Ideal.ofBits_zero_f32, place_eq 8 _ (by norm_num)]

/-- Layer 2: the triangle. -/
theorem triangle2 (i : S28x224.Idx) :
    val_main_v181 (F := Ideal) i = (((overlap 8 (i 0).val (i 1).val : ℝ) / (2 * (8 : ℕ)) : ℝ) : EReal) := by
  have h : val_main_v167 (F := Ideal) (fun a => match a with | ⟨0, _⟩ => i 0) = (((i 0).val : ℝ) : EReal) :=
    iota_at (s := S28) 0 _ (lt_trans (show (i 0).val < 28 from (i 0).isLt) (by norm_num))
  have hp := place2 (fun a => match a with | ⟨0, _⟩ => i 1)
  have key := triangle_eq 8 (i 0).val (i 1).val (by norm_num) _ _ hp ofBits_eighth
  rw [val_main_v181_apply, val_main_v180_apply, val_main_v179_apply, val_main_v178_apply, val_main_v177_apply, val_main_v176_apply,
    val_main_v175_apply, val_main_v174_apply, val_main_v173_apply, val_main_v172_apply, val_main_v171_apply, val_main_v170_apply,
    val_main_v169_apply, val_main_v168_apply]
  rw [← h, ← Ideal.ofBits_zero_f32, ← Ideal.ofBits_one_f32] at key
  exact key

/-- Layer 2: the sum of a sample's triangles. -/
theorem row2 (i : S224.Idx) :
    val_main_v182 (F := Ideal) i = (((reach 28 8 (i 0).val : ℝ) / (2 * (8 : ℕ)) : ℝ) : EReal) := by
  rw [val_main_v182_apply, ← rowSum_eq 28 8 fits2 (i 0)]
  exact congrArg₂ (· + ·) Ideal.ofBits_zero_f32 (Finset.sum_congr rfl fun k _ => triangle2 _)

/-- Layer 2: the weight. -/
theorem weight2 (i : S28x224.Idx) : val_main_v204 (F := Ideal) i = ((weight 28 8 (i 0).val (i 1).val : ℝ) : EReal) := by
  have hp := place2 (fun a => match a with | ⟨0, _⟩ => i 1)
  have hr := row2 (fun a => match a with | ⟨0, _⟩ => i 1)
  have key := normal_eq 28 8 (by norm_num) (by norm_num) fits2 (i 0) (i 1) _ _ _ (triangle2 i) hr ofBits_tiny
  have key2 := inside_eq 28 8 (by norm_num) (by norm_num) (i 1) _ _ _ ((weight 28 8 (i 0).val (i 1).val : ℝ) : EReal) hp
    ofBits_minus_half ofBits_last2
  have h84 : val_main_v195 (F := Ideal) i = ((weight 28 8 (i 0).val (i 1).val : ℝ) : EReal) := by
    rw [← key, val_main_v195_apply, val_main_v194_apply, val_main_v193_apply, val_main_v192_apply, val_main_v191_apply,
      val_main_v190_apply, val_main_v189_apply, val_main_v188_apply, val_main_v187_apply, val_main_v186_apply, val_main_v185_apply,
      val_main_v184_apply, val_main_v183_apply, ← Ideal.ofBits_zero_f32, ← Ideal.ofBits_one_f32]
    rfl
  rw [val_main_v204_apply, h84, val_main_v203_apply, val_main_v202_apply, val_main_v201_apply, val_main_v200_apply, val_main_v199_apply,
    val_main_v198_apply, val_main_v197_apply, val_main_v196_apply]
  rw [← Ideal.ofBits_zero_f32] at key2
  exact key2

/-- Layer 2's second matrix is the first. -/
theorem same2 : val_main_v252 (F := Ideal) = val_main_v204 (F := Ideal) := rfl

/-- Layer 3: a sample's position. -/
theorem place3 (i : S224.Idx) : val_main_v277 (F := Ideal) i = ((place 16 (i 0).val : ℝ) : EReal) := by
  have h : val_main_v269 (F := Ideal) i = (((i 0).val : ℝ) : EReal) :=
    iota_at (s := S224) 0 i (lt_trans (show (i 0).val < 224 from (i 0).isLt) (by norm_num))
  rw [val_main_v277_apply, val_main_v275_apply, val_main_v273_apply, val_main_v271_apply, h, val_main_v270_apply, val_main_v272_apply,
    val_main_v274_apply, val_main_v276_apply]
  show (_ + Ideal.ofBits .f32 0x3F000000#32) * Ideal.ofBits .f32 0x3D800000#32 - Ideal.ofBits .f32 0x00000000#32
    - Ideal.ofBits .f32 0x3F000000#32 = _
  rw [ofBits_half, ofBits_sixteenth, Ideal.ofBits_zero_f32, place_eq 16 _ (by norm_num)]

/-- Layer 3: the triangle. -/
theorem triangle3 (i : S14x224.Idx) :
    val_main_v292 (F := Ideal) i = (((overlap 16 (i 0).val (i 1).val : ℝ) / (2 * (16 : ℕ)) : ℝ) : EReal) := by
  have h : val_main_v278 (F := Ideal) (fun a => match a with | ⟨0, _⟩ => i 0) = (((i 0).val : ℝ) : EReal) :=
    iota_at (s := S14) 0 _ (lt_trans (show (i 0).val < 14 from (i 0).isLt) (by norm_num))
  have hp := place3 (fun a => match a with | ⟨0, _⟩ => i 1)
  have key := triangle_eq 16 (i 0).val (i 1).val (by norm_num) _ _ hp ofBits_sixteenth
  rw [val_main_v292_apply, val_main_v291_apply, val_main_v290_apply, val_main_v289_apply, val_main_v288_apply, val_main_v287_apply,
    val_main_v286_apply, val_main_v285_apply, val_main_v284_apply, val_main_v283_apply, val_main_v282_apply, val_main_v281_apply,
    val_main_v280_apply, val_main_v279_apply]
  rw [← h, ← Ideal.ofBits_zero_f32, ← Ideal.ofBits_one_f32] at key
  exact key

/-- Layer 3: the sum of a sample's triangles. -/
theorem row3 (i : S224.Idx) :
    val_main_v293 (F := Ideal) i = (((reach 14 16 (i 0).val : ℝ) / (2 * (16 : ℕ)) : ℝ) : EReal) := by
  rw [val_main_v293_apply, ← rowSum_eq 14 16 fits3 (i 0)]
  exact congrArg₂ (· + ·) Ideal.ofBits_zero_f32 (Finset.sum_congr rfl fun k _ => triangle3 _)

/-- Layer 3: the weight. -/
theorem weight3 (i : S14x224.Idx) : val_main_v315 (F := Ideal) i = ((weight 14 16 (i 0).val (i 1).val : ℝ) : EReal) := by
  have hp := place3 (fun a => match a with | ⟨0, _⟩ => i 1)
  have hr := row3 (fun a => match a with | ⟨0, _⟩ => i 1)
  have key := normal_eq 14 16 (by norm_num) (by norm_num) fits3 (i 0) (i 1) _ _ _ (triangle3 i) hr ofBits_tiny
  have key2 := inside_eq 14 16 (by norm_num) (by norm_num) (i 1) _ _ _ ((weight 14 16 (i 0).val (i 1).val : ℝ) : EReal) hp
    ofBits_minus_half ofBits_last3
  have h84 : val_main_v306 (F := Ideal) i = ((weight 14 16 (i 0).val (i 1).val : ℝ) : EReal) := by
    rw [← key, val_main_v306_apply, val_main_v305_apply, val_main_v304_apply, val_main_v303_apply, val_main_v302_apply,
      val_main_v301_apply, val_main_v300_apply, val_main_v299_apply, val_main_v298_apply, val_main_v297_apply, val_main_v296_apply,
      val_main_v295_apply, val_main_v294_apply, ← Ideal.ofBits_zero_f32, ← Ideal.ofBits_one_f32]
    rfl
  rw [val_main_v315_apply, h84, val_main_v314_apply, val_main_v313_apply, val_main_v312_apply, val_main_v311_apply, val_main_v310_apply,
    val_main_v309_apply, val_main_v308_apply, val_main_v307_apply]
  rw [← Ideal.ofBits_zero_f32] at key2
  exact key2

/-- Layer 3's second matrix is the first. -/
theorem same3 : val_main_v363 (F := Ideal) = val_main_v315 (F := Ideal) := rfl

end Cert.Pool
-- ==== Proof.RefBins.lean ====
/- The reference's bins: a pixel's bin word is the word of one less than the number of edges at most its depth, clipped to
   nine, and the count of a bin is the sum of the kernel's mask of it. -/
module

public import proofs.«01_k».proof.Proof.Gen.ReferenceIdeal.Read
public import proofs.«01_k».proof.Proof.Bins
public import proofs.«01_k».proof.Proof.Masks
public import proofs.«01_k».proof.Proof.Scatter
public import proofs.«01_k».proof.Proof.RefWeights
public import Idealize.ShloMosaic.Lib.Routing.OpsSearch
public import Idealize.ShloMosaic.Lib.Pointwise.IndexBridge

@[expose] public section

set_option maxRecDepth 16384

noncomputable section

namespace Cert.Pool

open Idealize.ShloMosaic Cert.ReferenceIdeal Cert.ReferenceIdeal.Read

variable (x3 : (⟨S2x1x224x224, .f32⟩ : BufTy).Contents (Elt Ideal))

/-- The depths, as one array of two images. -/
abbrev deep : Vec Ideal S2x224x224 .f32 := val_main_v0 (F := Ideal) x3

/-- A shape without axes has one index. -/
theorem S_idx (j j' : S_.Idx) : j = j' := funext fun a => a.elim0

/-- The reference's least depth. -/
theorem least_at (j : S_.Idx) : val_main_v1 (F := Ideal) x3 j = least (deep x3) := by
  unfold val_main_v1
  refine (Host.reduce_eq_fold _ _ _ _ _ _).trans ?_
  rw [Finset.filter_true_of_mem (fun _ _ => S_idx _ _)]
  refine (congrArg (fun r => Finset.univ.fold min r (deep x3)) ofBits_top).trans ?_
  rw [fold_min_eq]
  simp [least]

/-- The reference's greatest depth. -/
theorem greatest_at (j : S_.Idx) : val_main_v2 (F := Ideal) x3 j = greatest (deep x3) := by
  unfold val_main_v2
  refine (Host.reduce_eq_fold _ _ _ _ _ _).trans ?_
  rw [Finset.filter_true_of_mem (fun _ _ => S_idx _ _)]
  refine (congrArg (fun r => Finset.univ.fold max r (deep x3)) ofBits_bot).trans ?_
  rw [fold_max_eq]
  simp [greatest]

/-- A tenth of the bin's number. -/
theorem tenth_at (i : S10.Idx) : val_main_v7 (F := Ideal) i = (((i 0).val / 10 : ℝ) : EReal) := by
  have h : val_main_v5 (F := Ideal) i = (((i 0).val : ℝ) : EReal) :=
    iota_at (s := S10) 0 i (lt_trans (show (i 0).val < 10 from (i 0).isLt) (by norm_num))
  rw [val_main_v7_apply, h, val_main_v6_apply]
  refine (congrArg (Ideal.div _) ofBits_ten).trans ?_
  rw [Ideal.div_coe (by norm_num), ← EReal.coe_mul]
  congr 1
  ring

/-- The first ten edges, between the least and the greatest depth. -/
theorem inner_at (i : S10.Idx) : val_main_v16 (F := Ideal) x3 i = edge (least (deep x3)) (greatest (deep x3)) (i 0).val := by
  have hne : (i 0).val ≠ 10 := ne_of_lt (show (i 0).val < 10 from (i 0).isLt)
  unfold edge
  rw [if_neg hne, val_main_v16_apply, val_main_v12_apply, val_main_v15_apply, val_main_v11_apply, val_main_v14_apply,
    val_main_v10_apply, val_main_v9_apply, tenth_at]
  have h8 : ∀ j, val_main_v8 (F := Ideal) x3 j = least (deep x3) := fun j => by
    unfold val_main_v8
    exact least_at x3 _
  have h13 : ∀ j, val_main_v13 (F := Ideal) x3 j = greatest (deep x3) := fun j => by
    unfold val_main_v13
    exact greatest_at x3 _
  rw [h8, h13, EReal.coe_sub]
  exact congrArg (fun o => least (deep x3) * (o - (((i 0).val / 10 : ℝ) : EReal)) + greatest (deep x3) * (((i 0).val / 10 : ℝ) : EReal))
    (Ideal.ofBits_one_f32.trans EReal.coe_one.symm)

/-- All eleven edges. -/
theorem edge_at (q : Fin 11) : val_main_v18 (F := Ideal) x3 (ix1 q) = edge (least (deep x3)) (greatest (deep x3)) q.val := by
  unfold val_main_v18
  rw [concatenate_pair_apply]
  by_cases h : q.val < 10
  · exact (dif_pos h).trans (inner_at x3 _)
  · have hq : q.val = 10 := by have := q.isLt; omega
    rw [hq]
    exact (dif_neg h).trans ((val_main_v17_apply x3 _).trans (greatest_at x3 _))

/-- Where pixel `i` of the flat list lies. -/
abbrev pixel (i : Fin 100352) : S2x224x224.Idx := idx_main_v19 (ix1 i)

/-- How many edges are at most the pixel's depth. -/
abbrev edges (i : Fin 100352) : ℕ := edgesBelow (least (deep x3)) (greatest (deep x3)) (deep x3 (pixel i))

/-- The pixel's bin. -/
abbrev bin (i : Fin 100352) : ℕ := min 9 (edges x3 i - 1)

/-- A pixel has between one and eleven edges at or below it, and their number decides the bin that keeps it. -/
theorem pixel_bin (i : Fin 100352) (d : ℕ) (hd : d < 10) : 1 ≤ edges x3 i ∧ edges x3 i ≤ 11
    ∧ (bin x3 i = d ↔ Kept (least (deep x3)) (greatest (deep x3)) d (deep x3 (pixel i))) :=
  bin_iff _ _ _ (iInf_le _ _) (le_iSup _ _) d hd

/-- The bit of the test of edge `q` against pixel `i`. -/
theorem test_at (i : Fin 100352) (q : Fin 11) : val_main_v24 (F := Ideal) x3 (ix2 i q) = 1#1
    ↔ edge (least (deep x3)) (greatest (deep x3)) q.val ≤ deep x3 (pixel i) := by
  have he : val_main_v22 (F := Ideal) x3 (ix2 i q) = edge (least (deep x3)) (greatest (deep x3)) q.val := by
    rw [val_main_v22_apply, val_main_v20_apply, ← edge_at]
    exact congrArg _ (funext fun a => match a with | ⟨0, _⟩ => rfl)
  have hx : val_main_v23 (F := Ideal) x3 (ix2 i q) = deep x3 (pixel i) := by
    rw [val_main_v23_apply, val_main_v21_apply, val_main_v19_apply]
    exact congrArg _ (congrArg idx_main_v19 (funext fun a => match a with | ⟨0, _⟩ => rfl))
  rw [val_main_v24_apply, he, hx]
  show BitVec.ofBool (decide _) = 1#1 ↔ _
  by_cases h : edge (least (deep x3)) (greatest (deep x3)) q.val ≤ deep x3 (pixel i)
  · rw [decide_eq_true h]; exact ⟨fun _ => h, fun _ => rfl⟩
  · rw [decide_eq_false h]; exact ⟨fun c => absurd c (by decide), fun c => absurd c h⟩

/-- The number of edges at most the depth, as a word. -/
theorem edges_at (i : Fin 100352) : val_main_v26 (F := Ideal) x3 (ix1 i) = BitVec.ofNat 32 (edges x3 i) := by
  classical
  unfold val_main_v26 val_main_v25
  rw [ix1_eq_valueIdx]
  refine (Routing.reduce_count (by norm_num) _ _ _ _ i (fun q => edge (least (deep x3)) (greatest (deep x3)) q ≤ deep x3 (pixel i))
    (fun q => ?_)).trans ?_
  · rw [← ix2_eq_valueIdx]
    exact test_at x3 i q
  · unfold edges edgesBelow
    rw [← Routing.card_filter_fin]

/-- The bin, as a word. -/
theorem bin_at (i : Fin 100352) : val_main_v32 (F := Ideal) x3 (ix1 i) = BitVec.ofNat 32 (bin x3 i) := by
  obtain ⟨h1, h2, -⟩ := pixel_bin x3 i 0 (by norm_num)
  rw [val_main_v32_apply, val_main_v31_apply, val_main_v30_apply, val_main_v29_apply, val_main_v28_apply, val_main_v27_apply, edges_at]
  have e : IntOp.subi (BitVec.ofNat 32 (edges x3 i)) 1#32 = BitVec.ofNat 32 (edges x3 i - 1) := Routing.ofNat32_sub h1
  refine (congrArg (fun t => IntOp.minsi 9#32 (IntOp.maxsi 0#32 t)) e).trans ?_
  refine (Routing.clip_word (lo := 0) (hi := 9) (by omega) (by norm_num) (by norm_num)).trans ?_
  rw [Nat.max_eq_left (Nat.zero_le _), Nat.min_comm]

/-- The word the counting scatter reads is the bin's too: it is already at least zero. -/
theorem bin_again (i : Fin 100352) : val_main_v41 (F := Ideal) x3 (ix2 i 0) = BitVec.ofNat 32 (bin x3 i) := by
  have hb : bin x3 i ≤ 9 := Nat.min_le_left _ _
  have h35 : val_main_v35 (F := Ideal) x3 (ix1 i) = BitVec.ofNat 32 (bin x3 i) := by
    rw [val_main_v35_apply, val_main_v34_apply, bin_at]
    show IntOp.maxsi (BitVec.ofNat 32 0) (BitVec.ofNat 32 _) = _
    unfold IntOp.maxsi
    rw [Routing.slt_ofNat32 (by omega) (by norm_num), if_neg (by simp)]
  rw [val_main_v41_apply, show idx_main_v41 (ix2 i 0) = ix1 i from funext fun a => match a with | ⟨0, _⟩ => rfl,
    val_main_v40_apply, val_main_v37_apply, h35]
  refine Routing.wrap_of_lt _ _ ?_
  rw [BitVec.toNat_ofNat, Nat.mod_eq_of_lt (by omega)]
  omega

/-- A bin's word is the bin's number. -/
theorem bin_int (i : Fin 100352) : (BitVec.ofNat 32 (bin x3 i)).toInt = (bin x3 i : ℤ) :=
  StableHlo.Predicate.toInt_ofNat_small _ (lt_of_le_of_lt (Nat.min_le_left _ _) (by norm_num))

/-- The pixels are the entries of the array of depths, each once. -/
theorem sum_pixels {M : Type*} [AddCommMonoid M] (f : S2x224x224.Idx → M) : ∑ i, f (pixel i) = ∑ k, f k := by
  refine Finset.sum_bij (fun i _ => pixel i) (fun _ _ => Finset.mem_univ _) (fun i _ j _ h => ?_) (fun k _ => ?_) (fun _ _ => rfl)
  · have h0 : i.val / 50176 = j.val / 50176 := congrArg (fun k : S2x224x224.Idx => (k 0).val) h
    have h1 : i.val / 224 % 224 = j.val / 224 % 224 := congrArg (fun k : S2x224x224.Idx => (k 1).val) h
    have h2 : i.val % 224 = j.val % 224 := congrArg (fun k : S2x224x224.Idx => (k 2).val) h
    exact Fin.ext (by omega)
  · have h0 : (k 0).val < 2 := (k 0).isLt
    have h1 : (k 1).val < 224 := (k 1).isLt
    have h2 : (k 2).val < 224 := (k 2).isLt
    refine ⟨⟨((k 0).val * 224 + (k 1).val) * 224 + (k 2).val, by omega⟩, Finset.mem_univ _, funext fun a => ?_⟩
    match a with
    | ⟨0, _⟩ => exact Fin.ext (show (((k 0).val * 224 + (k 1).val) * 224 + (k 2).val) / 50176 = (k 0).val by omega)
    | ⟨1, _⟩ => exact Fin.ext (show (((k 0).val * 224 + (k 1).val) * 224 + (k 2).val) / 224 % 224 = (k 1).val by omega)
    | ⟨2, _⟩ => exact Fin.ext (show (((k 0).val * 224 + (k 1).val) * 224 + (k 2).val) % 224 = (k 2).val by omega)

/-- The mask as a real number. -/
def bit (x : Vec Ideal S2x224x224 .f32) (d : ℕ) (k : S2x224x224.Idx) : ℝ :=
  open Classical in if Kept (least x) (greatest x) d (x k) then 1 else 0

/-- The mask's values are the real numbers zero and one. -/
theorem mask_bit (x : Vec Ideal S2x224x224 .f32) (d : ℕ) (k : S2x224x224.Idx) : mask x d k = ((bit x d k : ℝ) : EReal) := by
  unfold mask bit
  split <;> simp

/-- A sum over the pixels of a bin is a sum weighted by the mask. -/
theorem sum_in_bin (d : ℕ) (hd : d < 10) (f : S2x224x224.Idx → EReal) :
    (∑ i, if bin x3 i = d then f (pixel i) else 0) = ∑ k, mask (deep x3) d k * f k := by
  classical
  rw [← sum_pixels]
  refine Finset.sum_congr rfl fun i _ => ?_
  unfold mask
  rw [ite_mul, one_mul, zero_mul]
  exact if_congr (pixel_bin x3 i d hd).2.2 rfl rfl

/-- The count of bin `d` as a float is the sum of its mask. -/
theorem count_at (d : S10.Idx) : val_main_v44 (F := Ideal) x3 d = ∑ k, mask (deep x3) (d 0).val k := by
  have hd : (d 0).val < 10 := (d 0).isLt
  have h := count_bin (K := 10) (N := 100352) scatter_S10_S100352x1_S100352_n_0_0_1 rfl rfl rfl rfl (val_main_v33 (F := Ideal))
    (fun i => val_main_v33_apply i) (val_main_v41 (F := Ideal) x3) (val_main_v42 (F := Ideal)) (fun i => val_main_v42_apply i)
    (bin x3) (fun i => (congrArg BitVec.toInt (bin_again x3 i)).trans (bin_int x3 i)) d
  have hc : (Finset.univ.filter fun i : Fin 100352 => bin x3 i = (d 0).val).card ≤ 100352 :=
    (Finset.card_le_univ _).trans_eq (Fintype.card_fin _)
  have hs := sum_in_bin x3 (d 0).val hd (fun _ => 1)
  rw [Finset.sum_congr rfl fun k _ => mul_one _] at hs
  rw [← hs, Finset.sum_boole, val_main_v44_apply]
  refine (congrArg (fun w : BitVec 32 => (((w.toInt : ℤ) : ℝ) : EReal)) h).trans ?_
  rw [StableHlo.Predicate.toInt_ofNat_small _ (lt_of_le_of_lt hc (by norm_num))]
  generalize (Finset.univ.filter fun i : Fin 100352 => bin x3 i = (d 0).val).card = n
  simp

end Cert.Pool
-- ==== Proof.RefSums.lean ====
/- The reference's feature sums: each layer's map is resized by its weights, and row `d` of its bins adds up the resized values
   of the pixels whose bin is `d`. -/
module

public import proofs.«01_k».proof.Proof.RefBins

@[expose] public section

set_option maxRecDepth 16384

noncomputable section

namespace Cert.Pool

open Idealize.ShloMosaic Cert.ReferenceIdeal Cert.ReferenceIdeal.Read

/-- Channel `c` of a map of `n` by `n` cells resized to the pixels, at pixel `k`: first along the rows, then along the columns. -/
def scaled {n C : ℕ} (s : ℕ) (f : (⟨4, ![2, C, n, n]⟩ : Shape).Idx → EReal) (c : Fin C) (k : S2x224x224.Idx) : EReal :=
  ∑ j : Fin n, (∑ i : Fin n, ((weight n s i (k 1).val : ℝ) : EReal) * f (ix4 (k 0 : Fin 2) c i j)) * ((weight n s j (k 2).val : ℝ) : EReal)

/-- The sum over the pixels of bin `d` of a channel. -/
def binned {n C : ℕ} (s : ℕ) (f : (⟨4, ![2, C, n, n]⟩ : Shape).Idx → EReal) (x : Vec Ideal S2x224x224 .f32) (c : Fin C) (d : ℕ) : EReal :=
  ∑ k, mask x d k * scaled s f c k

variable (x0 : (⟨S2x96x56x56, .f32⟩ : BufTy).Contents (Elt Ideal)) (x1 : (⟨S2x192x28x28, .f32⟩ : BufTy).Contents (Elt Ideal))
  (x2 : (⟨S2x384x14x14, .f32⟩ : BufTy).Contents (Elt Ideal)) (x3 : (⟨S2x1x224x224, .f32⟩ : BufTy).Contents (Elt Ideal))

/-- Layer 1: the resized map, channels last. -/
theorem scaled1 (i : Fin 100352) (c : Fin 96) : val_main_v148 (F := Ideal) x0 (ix2 i c) = scaled 4 x0 c (pixel i) := by
  have hi := i.isLt
  have hc := c.isLt
  have hk : idx_main_v144 (idx_main_v145 (idx_main_v146 (idx_main_v147 (idx_main_v148 (ix2 i c)))))
      = ix4 (pixel i 1 : Fin 224) (pixel i 0 : Fin 2) c (pixel i 2 : Fin 224) := by
    funext a
    match a with
    | ⟨0, _⟩ => exact Fin.ext (by dsimp [ix2, ix4, ix1]; omega)
    | ⟨1, _⟩ => exact Fin.ext (by dsimp [ix2, ix4, ix1]; omega)
    | ⟨2, _⟩ => exact Fin.ext (by dsimp [ix2, ix4, ix1]; omega)
    | ⟨3, _⟩ => exact Fin.ext (by dsimp [ix2, ix4, ix1]; omega)
  rw [val_main_v148_apply, val_main_v147_apply, val_main_v146_apply, val_main_v145_apply, val_main_v144_apply, hk]
  refine (val_main_v143_apply _ _).trans ?_
  unfold scaled
  refine Finset.sum_congr rfl fun j _ => congrArg₂ (· * ·) ?_ ?_
  · refine (val_main_v142_apply _ _).trans ?_
    refine Finset.sum_congr rfl fun k _ => congrArg₂ (· * ·) (weight1 _) (congrArg x0 (funext fun a => ?_))
    match a with
    | ⟨0, _⟩ => rfl
    | ⟨1, _⟩ => rfl
    | ⟨2, _⟩ => rfl
    | ⟨3, _⟩ => rfl
  · rw [same1]
    exact weight1 _

/-- Layer 1: the sums. -/
theorem binned1 (c : Fin 96) (d : Fin 10) : val_main_v152 (F := Ideal) x0 x3 (ix2 c d) = binned 4 x0 (deep x3) c d.val := by
  rw [val_main_v152_apply, show idx_main_v152 (ix2 c d) = ix2 d c from funext fun a => match a with | ⟨0, _⟩ => rfl | ⟨1, _⟩ => rfl]
  unfold val_main_v151 binned
  have hg (i : Fin 100352) : (val_main_v150 (F := Ideal) x3 (ix2 i 0)).toInt = (bin x3 i : ℤ) := by
    rw [val_main_v150_apply, ← bin_int, ← bin_at]
    exact congrArg (fun k => (val_main_v32 (F := Ideal) x3 k).toInt) (funext fun a => match a with | ⟨0, _⟩ => rfl)
  refine (sum_bin (K := 10) (N := 100352) (C := 96) scatter_S10x96_S100352x1_S100352x96_1_0_0_1 rfl rfl rfl rfl _ _ _ (bin x3) hg d c).trans ?_
  rw [← sum_in_bin x3 d.val d.isLt, val_main_v149_apply]
  refine (congrArg₂ (· + ·) Ideal.ofBits_zero_f32 (Finset.sum_congr rfl fun i _ => by rw [scaled1 x0 i c])).trans (zero_add _)

/-- Layer 2: the resized map, channels last. -/
theorem scaled2 (i : Fin 100352) (c : Fin 192) : val_main_v259 (F := Ideal) x1 (ix2 i c) = scaled 8 x1 c (pixel i) := by
  have hi := i.isLt
  have hc := c.isLt
  have hk : idx_main_v255 (idx_main_v256 (idx_main_v257 (idx_main_v258 (idx_main_v259 (ix2 i c)))))
      = ix4 (pixel i 1 : Fin 224) (pixel i 0 : Fin 2) c (pixel i 2 : Fin 224) := by
    funext a
    match a with
    | ⟨0, _⟩ => exact Fin.ext (by dsimp [ix2, ix4, ix1]; omega)
    | ⟨1, _⟩ => exact Fin.ext (by dsimp [ix2, ix4, ix1]; omega)
    | ⟨2, _⟩ => exact Fin.ext (by dsimp [ix2, ix4, ix1]; omega)
    | ⟨3, _⟩ => exact Fin.ext (by dsimp [ix2, ix4, ix1]; omega)
  rw [val_main_v259_apply, val_main_v258_apply, val_main_v257_apply, val_main_v256_apply, val_main_v255_apply, hk]
  refine (val_main_v254_apply _ _).trans ?_
  unfold scaled
  refine Finset.sum_congr rfl fun j _ => congrArg₂ (· * ·) ?_ ?_
  · refine (val_main_v253_apply _ _).trans ?_
    refine Finset.sum_congr rfl fun k _ => congrArg₂ (· * ·) (weight2 _) (congrArg x1 (funext fun a => ?_))
    match a with
    | ⟨0, _⟩ => rfl
    | ⟨1, _⟩ => rfl
    | ⟨2, _⟩ => rfl
    | ⟨3, _⟩ => rfl
  · rw [same2]
    exact weight2 _

/-- Layer 2: the sums. -/
theorem binned2 (c : Fin 192) (d : Fin 10) : val_main_v263 (F := Ideal) x1 x3 (ix2 c d) = binned 8 x1 (deep x3) c d.val := by
  rw [val_main_v263_apply, show idx_main_v263 (ix2 c d) = ix2 d c from funext fun a => match a with | ⟨0, _⟩ => rfl | ⟨1, _⟩ => rfl]
  unfold val_main_v262 binned
  have hg (i : Fin 100352) : (val_main_v261 (F := Ideal) x3 (ix2 i 0)).toInt = (bin x3 i : ℤ) := by
    rw [val_main_v261_apply, ← bin_int, ← bin_at]
    exact congrArg (fun k => (val_main_v32 (F := Ideal) x3 k).toInt) (funext fun a => match a with | ⟨0, _⟩ => rfl)
  refine (sum_bin (K := 10) (N := 100352) (C := 192) scatter_S10x192_S100352x1_S100352x192_1_0_0_1 rfl rfl rfl rfl _ _ _ (bin x3) hg d c).trans ?_
  rw [← sum_in_bin x3 d.val d.isLt, val_main_v260_apply]
  refine (congrArg₂ (· + ·) Ideal.ofBits_zero_f32 (Finset.sum_congr rfl fun i _ => by rw [scaled2 x1 i c])).trans (zero_add _)

/-- Layer 3: the resized map, channels last. -/
theorem scaled3 (i : Fin 100352) (c : Fin 384) : val_main_v370 (F := Ideal) x2 (ix2 i c) = scaled 16 x2 c (pixel i) := by
  have hi := i.isLt
  have hc := c.isLt
  have hk : idx_main_v366 (idx_main_v367 (idx_main_v368 (idx_main_v369 (idx_main_v370 (ix2 i c)))))
      = ix4 (pixel i 1 : Fin 224) (pixel i 0 : Fin 2) c (pixel i 2 : Fin 224) := by
    funext a
    match a with
    | ⟨0, _⟩ => exact Fin.ext (by dsimp [ix2, ix4, ix1]; omega)
    | ⟨1, _⟩ => exact Fin.ext (by dsimp [ix2, ix4, ix1]; omega)
    | ⟨2, _⟩ => exact Fin.ext (by dsimp [ix2, ix4, ix1]; omega)
    | ⟨3, _⟩ => exact Fin.ext (by dsimp [ix2, ix4, ix1]; omega)
  rw [val_main_v370_apply, val_main_v369_apply, val_main_v368_apply, val_main_v367_apply, val_main_v366_apply, hk]
  refine (val_main_v365_apply _ _).trans ?_
  unfold scaled
  refine Finset.sum_congr rfl fun j _ => congrArg₂ (· * ·) ?_ ?_
  · refine (val_main_v364_apply _ _).trans ?_
    refine Finset.sum_congr rfl fun k _ => congrArg₂ (· * ·) (weight3 _) (congrArg x2 (funext fun a => ?_))
    match a with
    | ⟨0, _⟩ => rfl
    | ⟨1, _⟩ => rfl
    | ⟨2, _⟩ => rfl
    | ⟨3, _⟩ => rfl
  · rw [same3]
    exact weight3 _

/-- Layer 3: the sums. -/
theorem binned3 (c : Fin 384) (d : Fin 10) : val_main_v374 (F := Ideal) x2 x3 (ix2 c d) = binned 16 x2 (deep x3) c d.val := by
  rw [val_main_v374_apply, show idx_main_v374 (ix2 c d) = ix2 d c from funext fun a => match a with | ⟨0, _⟩ => rfl | ⟨1, _⟩ => rfl]
  unfold val_main_v373 binned
  have hg (i : Fin 100352) : (val_main_v372 (F := Ideal) x3 (ix2 i 0)).toInt = (bin x3 i : ℤ) := by
    rw [val_main_v372_apply, ← bin_int, ← bin_at]
    exact congrArg (fun k => (val_main_v32 (F := Ideal) x3 k).toInt) (funext fun a => match a with | ⟨0, _⟩ => rfl)
  refine (sum_bin (K := 10) (N := 100352) (C := 384) scatter_S10x384_S100352x1_S100352x384_1_0_0_1 rfl rfl rfl rfl _ _ _ (bin x3) hg d c).trans ?_
  rw [← sum_in_bin x3 d.val d.isLt, val_main_v371_apply]
  refine (congrArg₂ (· + ·) Ideal.ofBits_zero_f32 (Finset.sum_congr rfl fun i _ => by rw [scaled3 x2 i c])).trans (zero_add _)

end Cert.Pool
-- ==== Proof.RefValue.lean ====
/- The reference's result at an entry: the layers' sums set into the three planes of a zeroed array, divided by the counts. -/
module

public import proofs.«01_k».proof.Proof.RefSums

@[expose] public section

set_option maxRecDepth 16384

noncomputable section

namespace Cert.Pool

open Idealize.ShloMosaic Cert.ReferenceIdeal Cert.ReferenceIdeal.Read

variable (x0 : (⟨S2x96x56x56, .f32⟩ : BufTy).Contents (Elt Ideal)) (x1 : (⟨S2x192x28x28, .f32⟩ : BufTy).Contents (Elt Ideal))
  (x2 : (⟨S2x384x14x14, .f32⟩ : BufTy).Contents (Elt Ideal)) (x3 : (⟨S2x1x224x224, .f32⟩ : BufTy).Contents (Elt Ideal))

/-- The sums of the three layers, one plane each, zero on the channels a layer lacks. -/
def planes (x : Vec Ideal S2x224x224 .f32) (l : Fin 3) (c : Fin 384) (d : Fin 10) : EReal :=
  if l = 0 then (if h : c.val < 96 then binned 4 x0 x (⟨c.val, h⟩ : Fin 96) d.val else 0)
  else if l = 1 then (if h : c.val < 192 then binned 8 x1 x (⟨c.val, h⟩ : Fin 192) d.val else 0)
  else binned 16 x2 x c d.val

/-- The array the planes are set into starts at zero. -/
theorem zeros_ref (i : S3x384x10.Idx) : val_main_v45 (F := Ideal) i = 0 := by
  rw [val_main_v45_apply]
  exact Ideal.ofBits_zero_f32

/-- After layer 1. -/
theorem plane1 (l : Fin 3) (c : Fin 384) (d : Fin 10) : val_main_v156 (F := Ideal) x0 x3 (ix3 l c d)
    = if h : l.val = 0 ∧ c.val < 96 then binned 4 x0 (deep x3) (⟨c.val, h.2⟩ : Fin 96) d.val else 0 := by
  unfold val_main_v156
  have h0 : val_main_v155 (F := Ideal) (ix1 0) = 0#32 := by
    unfold val_main_v155
    rw [concatenate_pair_apply]
    exact (dif_pos (by decide)).trans (val_main_v153_apply _)
  have h1 : val_main_v155 (F := Ideal) (ix1 1) = 0#32 := by
    unfold val_main_v155
    rw [concatenate_pair_apply]
    exact (dif_neg (by decide)).trans (val_main_v154_apply _)
  refine (set_block (A := 3) (B := 384) (D := 10) (C := 96) scatter_S3x384x10_S2_S96x10_01_0_01_0 _ _ _ 0
    (lands_pair _ rfl rfl rfl rfl _ 0 (by rw [h0]; rfl) (by rw [h1]; rfl)) l c d).trans ?_
  by_cases h : l.val = 0 ∧ c.val < 96
  · rw [dif_pos h, dif_pos h, binned1]
  · rw [dif_neg h, dif_neg h, zeros_ref]

/-- After layer 2. -/
theorem plane2 (l : Fin 3) (c : Fin 384) (d : Fin 10) : val_main_v267 (F := Ideal) x0 x1 x3 (ix3 l c d)
    = if h : l.val = 1 ∧ c.val < 192 then binned 8 x1 (deep x3) (⟨c.val, h.2⟩ : Fin 192) d.val
      else val_main_v156 (F := Ideal) x0 x3 (ix3 l c d) := by
  unfold val_main_v267
  have h0 : val_main_v266 (F := Ideal) (ix1 0) = 1#32 := by
    unfold val_main_v266
    rw [concatenate_pair_apply]
    exact (dif_pos (by decide)).trans (val_main_v264_apply _)
  have h1 : val_main_v266 (F := Ideal) (ix1 1) = 0#32 := by
    unfold val_main_v266
    rw [concatenate_pair_apply]
    exact (dif_neg (by decide)).trans (val_main_v265_apply _)
  refine (set_block (A := 3) (B := 384) (D := 10) (C := 192) scatter_S3x384x10_S2_S192x10_01_0_01_0 _ _ _ 1
    (lands_pair _ rfl rfl rfl rfl _ 1 (by rw [h0]; rfl) (by rw [h1]; rfl)) l c d).trans ?_
  by_cases h : l.val = 1 ∧ c.val < 192
  · rw [dif_pos h, dif_pos h, binned2]
  · rw [dif_neg h, dif_neg h]

/-- After layer 3. -/
theorem plane3 (l : Fin 3) (c : Fin 384) (d : Fin 10) : val_main_v376 (F := Ideal) x0 x1 x2 x3 (ix3 l c d)
    = planes x0 x1 x2 (deep x3) l c d := by
  unfold val_main_v376
  refine (set_block (A := 3) (B := 384) (D := 10) (C := 384) scatter_S3x384x10_S1_S384x10_01_0_0_0 _ _ _ 2
    (lands_plane _ rfl rfl rfl rfl _ 2 (by rw [val_main_v375_apply]; rfl)) l c d).trans ?_
  have hc := c.isLt
  unfold planes
  obtain rfl | rfl | rfl : l = 0 ∨ l = 1 ∨ l = 2 := by fin_cases l <;> simp
  · rw [dif_neg (by simp), plane2, dif_neg (by simp), plane1, if_pos rfl]
    by_cases h : c.val < 96
    · rw [dif_pos ⟨rfl, h⟩, dif_pos h]
    · rw [dif_neg (fun k => h k.2), dif_neg h]
  · rw [dif_neg (by simp), plane2, if_neg (by decide), if_pos rfl]
    by_cases h : c.val < 192
    · rw [dif_pos ⟨rfl, h⟩, dif_pos h]
    · rw [dif_neg (fun k => h k.2), dif_neg h, plane1, dif_neg (by simp)]
  · rw [dif_pos ⟨rfl, hc⟩, if_neg (by decide), if_neg (by decide), binned3]

/-- The reference's result. -/
theorem ref_at (l : Fin 3) (c : Fin 384) (d : Fin 10) : val_main_v381 (F := Ideal) x0 x1 x2 x3 (ix3 l c d)
    = Ideal.div (planes x0 x1 x2 (deep x3) l c d) (max floorCount (∑ k, mask (deep x3) d.val k)) := by
  rw [val_main_v381_apply, plane3, val_main_v380_apply, val_main_v379_apply, val_main_v378_apply, val_main_v377_apply, count_at]
  refine congrArg (fun n : ℕ => Ideal.div _ (max floorCount (∑ k, mask (deep x3) n k))) ?_
  simp [ix3]

end Cert.Pool
-- ==== Proof.Equation.lean ====
/- The two sums are one: a channel's features against the cell weights of a bin are the bin's sum of the resized channel. -/
module

public import proofs.«01_k».proof.Proof.KernelValue
public import proofs.«01_k».proof.Proof.Tables
public import proofs.«01_k».proof.Proof.RefValue
public import proofs.«01_k».proof.Proof.Sums

@[expose] public section

set_option maxRecDepth 16384

noncomputable section

namespace Cert.Pool

open Idealize.ShloMosaic Cert.KernelIdeal

/-- A weight is not negative. -/
theorem weight_nonneg (n s w x : ℕ) : 0 ≤ weight n s w x := div_nonneg (Nat.cast_nonneg _) (Nat.cast_nonneg _)

/-- A mask's value is not negative. -/
theorem bit_nonneg (x : Vec Ideal S2x224x224 .f32) (d : ℕ) (k : S2x224x224.Idx) : 0 ≤ bit x d k := by
  unfold bit
  split <;> norm_num

/-- A cell weight is a real number. -/
theorem cell_real {n : ℕ} (s : ℕ) (x : Vec Ideal S2x224x224 .f32) (At : (⟨2, ![n, 224]⟩ : Shape).Idx → EReal)
    (A : (⟨2, ![224, n]⟩ : Shape).Idx → EReal) (hAt : ∀ (i : Fin n) (y : Fin 224), At (ix2 i y) = ((weight n s i.val y.val : ℝ) : EReal))
    (hA : ∀ (y : Fin 224) (j : Fin n), A (ix2 y j) = ((weight n s j.val y.val : ℝ) : EReal)) (d : ℕ) (b : Fin 2) (i j : Fin n) :
    cell x At A d b i j = ((∑ y : Fin 224, weight n s i.val y.val * ∑ z : Fin 224, bit x d (ix3 b y z) * weight n s j.val z.val : ℝ) : EReal) := by
  unfold cell cols
  rw [coe_sum]
  refine Finset.sum_congr rfl fun y _ => ?_
  rw [EReal.coe_mul, coe_sum, hAt]
  refine congrArg _ (Finset.sum_congr rfl fun z _ => ?_)
  rw [EReal.coe_mul, hA, mask_bit]

/-- A channel against the cell weights of a bin: the bin's sum of the resized channel. -/
theorem cell_sum {n C : ℕ} (s : ℕ) (f : (⟨4, ![2, C, n, n]⟩ : Shape).Idx → EReal) (x : Vec Ideal S2x224x224 .f32)
    (At : (⟨2, ![n, 224]⟩ : Shape).Idx → EReal) (A : (⟨2, ![224, n]⟩ : Shape).Idx → EReal)
    (hAt : ∀ (i : Fin n) (y : Fin 224), At (ix2 i y) = ((weight n s i.val y.val : ℝ) : EReal))
    (hA : ∀ (y : Fin 224) (j : Fin n), A (ix2 y j) = ((weight n s j.val y.val : ℝ) : EReal)) (c : Fin C) (d : ℕ) :
    (∑ b : Fin 2, ∑ i : Fin n, ∑ j : Fin n, f (ix4 b c i j) * cell x At A d b i j) = binned s f x c d := by
  have h := exchange (B := Fin 2) (fun (i : Fin n) (y : Fin 224) => weight n s i.val y.val) (fun (j : Fin n) (z : Fin 224) => weight n s j.val z.val)
    (fun b y z => bit x d (ix3 b y z)) (fun _ _ => weight_nonneg _ _ _ _) (fun _ _ => weight_nonneg _ _ _ _)
    (fun _ _ _ => bit_nonneg _ _ _) (fun b i j => f (ix4 b c i j))
  simp only [cell_real s x At A hAt hA]
  refine h.trans ?_
  unfold binned
  rw [sum_idx3]
  refine Finset.sum_congr rfl fun b _ => Finset.sum_congr rfl fun y _ => Finset.sum_congr rfl fun z _ => ?_
  rw [mask_bit, mul_comm]
  rfl

/-- A sum over the cells laid in a row. -/
theorem sum_flat {n N : ℕ} (hN : n * n = N) (F : Fin N → EReal) (G : Fin n → Fin n → EReal)
    (h : ∀ (i j : Fin n) (p : Fin N), p.val = i.val * n + j.val → F p = G i j) : ∑ p, F p = ∑ i, ∑ j, G i j := by
  subst hN
  rw [← Fintype.sum_prod_type', ← finProdFinEquiv.sum_comp]
  refine Finset.sum_congr rfl fun q _ => h q.1 q.2 _ ?_
  simp [finProdFinEquiv, mul_comm, add_comm]

/-- The kernel's pooling of a layer from the layer's map. -/
theorem pooled_binned {n C N R : ℕ} (s : ℕ) (hN : n * n = N) (f : (⟨4, ![2, C, n, n]⟩ : Shape).Idx → EReal) (x : Vec Ideal S2x224x224 .f32)
    (At : (⟨2, ![n, 224]⟩ : Shape).Idx → EReal) (A : (⟨2, ![224, n]⟩ : Shape).Idx → EReal)
    (hAt : ∀ (i : Fin n) (y : Fin 224), At (ix2 i y) = ((weight n s i.val y.val : ℝ) : EReal))
    (hA : ∀ (y : Fin 224) (j : Fin n), A (ix2 y j) = ((weight n s j.val y.val : ℝ) : EReal))
    (u : (⟨2, ![R, N]⟩ : Shape).Idx → EReal) (w : (⟨3, ![2, 10, N]⟩ : Shape).Idx → EReal) (q : S1x10.Idx → EReal)
    (hu : ∀ (b : Fin 2) (c : Fin C) (i j : Fin n) (r : Fin R) (p : Fin N), r.val = b.val * C + c.val → p.val = i.val * n + j.val →
      u (ix2 r p) = f (ix4 b c i j))
    (hw : ∀ (b : Fin 2) (d : Fin 10) (i j : Fin n) (p : Fin N), p.val = i.val * n + j.val → w (ix3 b d p) = cell x At A d.val b i j)
    (c : Fin C) (d : Fin 10) (r t : Fin R) (hr : r.val = c.val) (ht : t.val = C + c.val) :
    pooled u w q r t d = binned s f x c d.val * q (ix2 0 d) := by
  unfold pooled
  rw [← cell_sum s f x At A hAt hA c d.val, Fin.sum_univ_two]
  refine congrArg (· * q (ix2 0 d)) (congrArg₂ (· + ·) ?_ ?_)
  · refine sum_flat hN _ _ fun i j p hp => ?_
    rw [hu 0 c i j r p (by simpa using hr) hp, hw 0 d i j p hp]
  · refine sum_flat hN _ _ fun i j p hp => ?_
    rw [hu 1 c i j t p (by simpa using ht) hp, hw 1 d i j p hp]

/-- The smallest count is a positive real number. -/
theorem floorCount_pos : ∃ e : ℝ, 0 < e ∧ floorCount = (e : EReal) := by
  refine ⟨8796093 / 2 ^ 43, by norm_num, ?_⟩
  unfold floorCount
  simp [Ideal.ofBits, Ideal.ieee, -EReal.coe_mul]
  norm_num

/-- Times the inverse count is over the count. -/
theorem mul_inv_count (x : Vec Ideal S2x224x224 .f32) (d : ℕ) (a : EReal) :
    a * inv x d = Ideal.div a (max floorCount (∑ k, mask x d k)) := by
  obtain ⟨e, he, hf⟩ := floorCount_pos
  have hc : (∑ k, mask x d k) = ((∑ k, bit x d k : ℝ) : EReal) := by
    rw [coe_sum]
    exact Finset.sum_congr rfl fun k _ => mask_bit x d k
  have hm : max floorCount (∑ k, mask x d k) = ((max e (∑ k, bit x d k) : ℝ) : EReal) := by
    rw [hc, hf]
    exact (EReal.coe_strictMono.monotone.map_max).symm
  have hne : max e (∑ k, bit x d k) ≠ 0 := (lt_of_lt_of_le he (le_max_left _ _)).ne'
  unfold inv
  rw [max_comm, hm, Ideal.div_coe hne, Ideal.div_coe hne, one_mul]

end Cert.Pool
-- ==== Proof.Layers.lean ====
/- The kernel's result is the reference's: layer by layer, then entry by entry. -/
module

public import proofs.«01_k».proof.Proof.Equation

@[expose] public section

set_option maxRecDepth 16384

noncomputable section

namespace Cert.Pool

open Idealize.ShloMosaic Cert.KernelIdeal Cert.KernelIdeal.Gen Idealize.ShloMosaic.TcCoe

variable (m : (ℓ : Loc nD τ sig) → Buf (Elt Ideal) ℓ) (ρ : Dev nD → PrngReg) (c : Dev nD)

/-- Kernel and reference look at the same depths. -/
theorem depths_deep : depths m c = deep (m ((c : Thread nD τ).loc main_arg3)) := rfl

/-- Layer 1's map as the second kernel takes it, at a cell of a channel. -/
theorem feats1_at (b : Fin 2) (e : Fin 96) (i j : Fin 56) (r : Fin 192) (p : Fin 3136) (hr : r.val = b.val * 96 + e.val)
    (hp : p.val = i.val * 56 + j.val) : feats1 m c (ix2 r p) = m ((c : Thread nD τ).loc main_arg0) (ix4 b e i j) := by
  unfold feats1
  refine shapeCast_apply _ _ (ix2 r p) (ix4 b e i j) ?_
  rw [Shape.rowMajor_val_four, Shape.rowMajor_val_two]
  dsimp [ix2, ix4]
  omega

/-- The first layer's laid-out weights at a cell: the weights at that cell. -/
theorem flat1_at (w : S10x2x56x56.Idx → EReal) (b : Fin 2) (d : Fin 10) (i j : Fin 56) (p : Fin 3136) (hp : p.val = i.val * 56 + j.val) :
    flat1 w (ix3 b d p) = w (ix4 d b i j) := by
  unfold flat1
  refine (shapeCast_apply _ _ (ix3 b d p) (ix4 b d i j) ?_).trans ?_
  · rw [Shape.rowMajor_val_four, Shape.rowMajor_val_three]
    dsimp [ix3, ix4]
    omega
  · refine congrArg w (funext fun a => ?_)
    fin_cases a <;> rfl

/-- The first layer: the kernel's pooling is the bin's sum of the resized channel times the inverse count. -/
theorem layer1 (q : S1x10.Idx → EReal) (e : Fin 96) (d : Fin 10) (r t : Fin 192) (hr : r.val = e.val) (ht : t.val = 96 + e.val) :
    pooled (feats1 m c) (flat1 (cells (depths m c) tab1t tab1)) q r t d
      = binned 4 (m ((c : Thread nD τ).loc main_arg0)) (depths m c) e d.val * q (ix2 0 d) :=
  pooled_binned (n := 56) (C := 96) (N := 3136) (R := 192) 4 rfl _ (depths m c) tab1t tab1 tab1t_at tab1_at _ _ q (feats1_at m c)
    (fun b d i j p hp => flat1_at _ b d i j p hp) e d r t hr ht

/-- Layer 2's map as the second kernel takes it, at a cell of a channel. -/
theorem feats2_at (b : Fin 2) (e : Fin 192) (i j : Fin 28) (r : Fin 384) (p : Fin 784) (hr : r.val = b.val * 192 + e.val)
    (hp : p.val = i.val * 28 + j.val) : feats2 m c (ix2 r p) = m ((c : Thread nD τ).loc main_arg1) (ix4 b e i j) := by
  unfold feats2
  refine shapeCast_apply _ _ (ix2 r p) (ix4 b e i j) ?_
  rw [Shape.rowMajor_val_four, Shape.rowMajor_val_two]
  dsimp [ix2, ix4]
  omega

/-- The second layer's laid-out weights at a cell: the weights at that cell. -/
theorem flat2_at (w : S10x2x28x28.Idx → EReal) (b : Fin 2) (d : Fin 10) (i j : Fin 28) (p : Fin 784) (hp : p.val = i.val * 28 + j.val) :
    flat2 w (ix3 b d p) = w (ix4 d b i j) := by
  unfold flat2
  refine (shapeCast_apply _ _ (ix3 b d p) (ix4 b d i j) ?_).trans ?_
  · rw [Shape.rowMajor_val_four, Shape.rowMajor_val_three]
    dsimp [ix3, ix4]
    omega
  · refine congrArg w (funext fun a => ?_)
    fin_cases a <;> rfl

/-- The second layer: the kernel's pooling is the bin's sum of the resized channel times the inverse count. -/
theorem layer2 (q : S1x10.Idx → EReal) (e : Fin 192) (d : Fin 10) (r t : Fin 384) (hr : r.val = e.val) (ht : t.val = 192 + e.val) :
    pooled (feats2 m c) (flat2 (cells (depths m c) tab2t tab2)) q r t d
      = binned 8 (m ((c : Thread nD τ).loc main_arg1)) (depths m c) e d.val * q (ix2 0 d) :=
  pooled_binned (n := 28) (C := 192) (N := 784) (R := 384) 8 rfl _ (depths m c) tab2t tab2 tab2t_at tab2_at _ _ q (feats2_at m c)
    (fun b d i j p hp => flat2_at _ b d i j p hp) e d r t hr ht

/-- Layer 3's map as the second kernel takes it, at a cell of a channel. -/
theorem feats3_at (b : Fin 2) (e : Fin 384) (i j : Fin 14) (r : Fin 768) (p : Fin 196) (hr : r.val = b.val * 384 + e.val)
    (hp : p.val = i.val * 14 + j.val) : feats3 m c (ix2 r p) = m ((c : Thread nD τ).loc main_arg2) (ix4 b e i j) := by
  unfold feats3
  refine shapeCast_apply _ _ (ix2 r p) (ix4 b e i j) ?_
  rw [Shape.rowMajor_val_four, Shape.rowMajor_val_two]
  dsimp [ix2, ix4]
  omega

/-- The third layer's laid-out weights at a cell: the weights at that cell. -/
theorem flat3_at (w : S10x2x14x14.Idx → EReal) (b : Fin 2) (d : Fin 10) (i j : Fin 14) (p : Fin 196) (hp : p.val = i.val * 14 + j.val) :
    flat3 w (ix3 b d p) = w (ix4 d b i j) := by
  unfold flat3
  refine (shapeCast_apply _ _ (ix3 b d p) (ix4 b d i j) ?_).trans ?_
  · rw [Shape.rowMajor_val_four, Shape.rowMajor_val_three]
    dsimp [ix3, ix4]
    omega
  · refine congrArg w (funext fun a => ?_)
    fin_cases a <;> rfl

/-- The third layer: the kernel's pooling is the bin's sum of the resized channel times the inverse count. -/
theorem layer3 (q : S1x10.Idx → EReal) (e : Fin 384) (d : Fin 10) (r t : Fin 768) (hr : r.val = e.val) (ht : t.val = 384 + e.val) :
    pooled (feats3 m c) (flat3 (cells (depths m c) tab3t tab3)) q r t d
      = binned 16 (m ((c : Thread nD τ).loc main_arg2)) (depths m c) e d.val * q (ix2 0 d) :=
  pooled_binned (n := 14) (C := 384) (N := 196) (R := 768) 16 rfl _ (depths m c) tab3t tab3 tab3t_at tab3_at _ _ q (feats3_at m c)
    (fun b d i j p hp => flat3_at _ b d i j p hp) e d r t hr ht

/-- The kernel's result at an entry is the reference's function of the arguments. -/
theorem kernel_eq_ref (l : Fin 3) (e : Fin 384) (d : Fin 10) :
    W4 m ρ c (Proc.devRef .tc main_v11) (ix3 l e d)
      = Cert.ReferenceIdeal.Read.val_main_v381 (F := Ideal) (m ((c : Thread nD τ).loc main_arg0)) (m ((c : Thread nD τ).loc main_arg1))
          (m ((c : Thread nD τ).loc main_arg2)) (m ((c : Thread nD τ).loc main_arg3)) (ix3 l e d) := by
  refine (kernel_at m ρ c l e d).trans (Eq.trans ?_ (ref_at _ _ _ _ l e d).symm)
  refine Eq.trans ?_ (mul_inv_count (depths m c) d.val _)
  unfold contracted planes
  split
  · split
    · exact layer1 m c _ _ d _ _ rfl rfl
    · exact (zero_mul (inv (depths m c) d.val)).symm
  · split
    · split
      · exact layer2 m c _ _ d _ _ rfl rfl
      · exact (zero_mul (inv (depths m c) d.val)).symm
    · exact layer3 m c _ _ d _ _ rfl rfl

end Cert.Pool
-- ==== Proof.lean ====
/- The proof of the five claims. The frames come from the generated modules. The value claim joins the kernel's run
   (`Cert.Pool.run_result`), the reference's run and the equation of their results (`Cert.Pool.kernel_eq_ref`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Layers
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to its end, leaves its arguments as they were and every semaphore at zero. -/
theorem frame_p : Cert.quiescent_Kernel := fun m ρ _ => Cert.Kernel.Gen.frame m ρ

/-- So does its reading over the extended reals. -/
theorem frame_pi : Cert.quiescent_KernelIdeal := fun m ρ _ => Cert.KernelIdeal.Gen.frame m ρ

/-- So does the reference's. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Both programs leave the same array: the kernel's own, which the reference's is at every entry. -/
theorem algebraic : Cert.algebraic_KernelIdeal_ReferenceIdeal := by
  intro m g m' g' _ hargs
  refine ⟨fun c => Cert.KernelIdeal.Gen.W4 m g c (Proc.devRef .tc Cert.KernelIdeal.main_v11), ?_, ?_⟩
  · exact (θ_run Cert.KernelIdeal.defs _ _).mono (fun _ h => h.1) (Cert.Pool.run_result (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3⟩ := hargs c
    refine (Cert.ReferenceIdeal.Read.val_main_v381_eq (StableHlo.launchContents m' c)).trans ?_
    refine Eq.trans (b := Cert.ReferenceIdeal.Read.val_main_v381 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))) ?_ ?_
    · rw [← h0, ← h1, ← h2, ← h3]
    · funext k
      rw [eq_ix3 k]
      exact (Cert.Pool.kernel_eq_ref m g c (k 0) (k 1) (k 2)).symm

/-- All five claims. -/
theorem claim : Cert.Claim := ⟨Cert.Kernel.Gen.facts, Cert.KernelIdeal.Gen.facts, Cert.ReferenceIdeal.Gen.facts,
  frame_p, frame_pi, frame_ri, trivial, algebraic⟩

end Cert.Proof

end
